-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_adj_finite_a [hPre_binary_adj_finite_a : Cert.Pre_binary_adj_finite_a.Facts] (m : (ℓ : Loc Cert.KernelIdeal.nD Cert.KernelIdeal.τ Cert.KernelIdeal.sig) → Buf (Elt Ideal) ℓ) : Prop :=
  ∀ c : Dev Cert.KernelIdeal.nD,
    (Cert.Pre_binary_adj_finite_a.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_adj_finite_a [hPre_binary_adj_finite_a : Cert.Pre_binary_adj_finite_a.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_adj_finite_a.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_binary_adj_finite_a [hKernelIdeal : Cert.KernelIdeal.Facts] [hPre_binary_adj_finite_a : Cert.Pre_binary_adj_finite_a.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_adj_finite_a m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_binary_adj_finite_a [hReferenceIdeal : Cert.ReferenceIdeal.Facts] [hPre_binary_adj_finite_a : Cert.Pre_binary_adj_finite_a.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_adj_finite_a m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "rest" .f32 0x3F4CCCCD#32 ((53687091 / 67108864 : ℝ) : EReal)
  ∧ IdealRules.named_const.Statement Cert.KernelIdeal.κ "neg_rest" .f32 0xBF4CCCCD#32 ((-53687091 / 67108864 : ℝ) : EReal)

def algebraic_KernelIdeal_ReferenceIdeal_pre_binary_adj_finite_a [hKernelIdeal : Cert.KernelIdeal.Facts] [hReferenceIdeal : Cert.ReferenceIdeal.Facts] [hPre_binary_adj_finite_a : Cert.Pre_binary_adj_finite_a.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_adj_finite_a m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_binary_adj_finite_a : Cert.Pre_binary_adj_finite_a.Facts),
    quiescent_Kernel (hKernel := hKernel)
    ∧ quiescent_KernelIdeal (hKernelIdeal := hKernelIdeal)
    ∧ quiescent_KernelIdeal_pre_binary_adj_finite_a (hKernelIdeal := hKernelIdeal) (hPre_binary_adj_finite_a := hPre_binary_adj_finite_a)
    ∧ quiescent_ReferenceIdeal (hReferenceIdeal := hReferenceIdeal)
    ∧ quiescent_ReferenceIdeal_pre_binary_adj_finite_a (hReferenceIdeal := hReferenceIdeal) (hPre_binary_adj_finite_a := hPre_binary_adj_finite_a)
    ∧ preserves_Kernel_KernelIdeal
    ∧ algebraic_KernelIdeal_ReferenceIdeal_pre_binary_adj_finite_a (hKernelIdeal := hKernelIdeal) (hReferenceIdeal := hReferenceIdeal) (hPre_binary_adj_finite_a := hPre_binary_adj_finite_a)
-- ==== Pre_binary_adj_finite_a.lean ====
abbrev S4x2048x128 : Shape := ⟨3, ![4, 2048, 128]⟩
abbrev S4x2048x2048 : Shape := ⟨3, ![4, 2048, 2048]⟩
abbrev S4x128x64 : Shape := ⟨3, ![4, 128, 64]⟩
abbrev S4x64x1 : Shape := ⟨3, ![4, 64, 1]⟩
abbrev S64 : Shape := ⟨1, ![64]⟩
abbrev S4x256x64 : Shape := ⟨3, ![4, 256, 64]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x64x1 : S_.BroadcastsInDim S4x64x1 (![] : Fin 0 → Fin S4x64x1.rank)
  reducesTo_S4x64x1_S_d0_1_2 : S4x64x1.ReducesTo [0, 1, 2] S_

variable [Facts]

def fn_part1 {F : FTy → Type} [FloatOps F] (main_arg8 : FVec F S4x64x1 .f32) (main_v15 : IVec S_ 1) (main_v16 : FVec F S4x64x1 .f32) : IVec S_ 1 :=
  let main_cst_5 : FVec F S_ .f32 := constant S_ .f32 0x7F800000#32
  let main_v17 : FVec F S4x64x1 .f32 := broadcastInDim S4x64x1 ![] bcast_S_S4x64x1 main_cst_5
  let main_v18 : IVec S4x64x1 1 := cmpf .olt main_v16 main_v17
  let main_c_6 : IVec S_ 1 := constantI S_ 1 1#1
  let main_v19 : IVec S_ 1 := (fun x v => Host.reduce IntOp.andi x v reducesTo_S4x64x1_S_d0_1_2 h_S_) main_v18 main_c_6
  let main_v20 : IVec S_ 1 := andi main_v15 main_v19
  let main_v21 : FVec F S4x64x1 .f32 := Host.absf main_arg8
  let main_cst_7 : FVec F S_ .f32 := constant S_ .f32 0x7F800000#32
  let main_v22 : FVec F S4x64x1 .f32 := broadcastInDim S4x64x1 ![] bcast_S_S4x64x1 main_cst_7
  let main_v23 : IVec S4x64x1 1 := cmpf .olt main_v21 main_v22
  let main_c_8 : IVec S_ 1 := constantI S_ 1 1#1
  let main_v24 : IVec S_ 1 := (fun x v => Host.reduce IntOp.andi x v reducesTo_S4x64x1_S_d0_1_2 h_S_) main_v23 main_c_8
  let main_v25 : IVec S_ 1 := andi main_v20 main_v24
  main_v25

def fn {F : FTy → Type} [FloatOps F] (main_arg0 : FVec F S4x2048x128 .f32) (main_arg1 : FVec F S4x2048x2048 .f32) (main_arg2 : FVec F S4x128x64 .f32) (main_arg3 : FVec F S4x64x1 .f32) (main_arg4 : FVec F S4x64x1 .f32) (main_arg5 : FVec F S64 .f32) (main_arg6 : FVec F S4x256x64 .f32) (main_arg7 : FVec F S4x64x1 .f32) (main_arg8 : FVec F S4x64x1 .f32) (main_arg9 : FVec F S64 .f32) : IVec S_ 1 :=
  let main_cst : FVec F S_ .f32 := constant S_ .f32 0x00000000#32
  let main_v0 : FVec F S4x2048x2048 .f32 := broadcastInDim S4x2048x2048 ![] bcast_S_S4x2048x2048 main_cst
  let main_v1 : IVec S4x2048x2048 1 := cmpf .oeq main_arg1 main_v0
  let main_cst_0 : FVec F S_ .f32 := constant S_ .f32 0x3F800000#32
  let main_v2 : FVec F S4x2048x2048 .f32 := broadcastInDim S4x2048x2048 ![] bcast_S_S4x2048x2048 main_cst_0
  let main_v3 : IVec S4x2048x2048 1 := cmpf .oeq main_arg1 main_v2
  let main_v4 : IVec S4x2048x2048 1 := ori main_v1 main_v3
  let main_c : IVec S_ 1 := constantI S_ 1 1#1
  let main_v5 : IVec S_ 1 := (fun x v => Host.reduce IntOp.andi x v reducesTo_S4x2048x2048_S_d0_1_2 h_S_) main_v4 main_c
  let main_v6 : FVec F S4x64x1 .f32 := Host.absf main_arg3
  let main_cst_1 : FVec F S_ .f32 := constant S_ .f32 0x7F800000#32
  let main_v7 : FVec F S4x64x1 .f32 := broadcastInDim S4x64x1 ![] bcast_S_S4x64x1 main_cst_1
  let main_v8 : IVec S4x64x1 1 := cmpf .olt main_v6 main_v7
  let main_c_2 : IVec S_ 1 := constantI S_ 1 1#1
  let main_v9 : IVec S_ 1 := (fun x v => Host.reduce IntOp.andi x v reducesTo_S4x64x1_S_d0_1_2 h_S_) main_v8 main_c_2
  let main_v10 : IVec S_ 1 := andi main_v5 main_v9
  let main_v11 : FVec F S4x64x1 .f32 := Host.absf main_arg4
  let main_cst_3 : FVec F S_ .f32 := constant S_ .f32 0x7F800000#32
  let main_v12 : FVec F S4x64x1 .f32 := broadcastInDim S4x64x1 ![] bcast_S_S4x64x1 main_cst_3
  let main_v13 : IVec S4x64x1 1 := cmpf .olt main_v11 main_v12
  let main_c_4 : IVec S_ 1 := constantI S_ 1 1#1
  let main_v14 : IVec S_ 1 := (fun x v => Host.reduce IntOp.andi x v reducesTo_S4x64x1_S_d0_1_2 h_S_) main_v13 main_c_4
  let main_v15 : IVec S_ 1 := andi main_v10 main_v14
  let main_v16 : FVec F S4x64x1 .f32 := Host.absf main_arg7
  fn_part1 (F := F) main_arg8 main_v15 main_v16
-- ==== Kernel.lean ====
abbrev S4x2048x128 : Shape := ⟨3, ![4, 2048, 128]⟩
abbrev S4x2048x2048 : Shape := ⟨3, ![4, 2048, 2048]⟩
abbrev S4x128x64 : Shape := ⟨3, ![4, 128, 64]⟩
abbrev S4x64x1 : Shape := ⟨3, ![4, 64, 1]⟩
abbrev S64 : Shape := ⟨1, ![64]⟩
abbrev S4x256x64 : Shape := ⟨3, ![4, 256, 64]⟩
abbrev S1x64 : Shape := ⟨2, ![1, 64]⟩
abbrev S4x4x2048x64 : Shape := ⟨4, ![4, 4, 2048, 64]⟩
abbrev S4x4x2048x1 : Shape := ⟨4, ![4, 4, 2048, 1]⟩
abbrev S4x4x1x2048 : Shape := ⟨4, ![4, 4, 1, 2048]⟩
abbrev S1x2048x128 : Shape := ⟨3, ![1, 2048, 128]⟩
abbrev S1x512x2048 : Shape := ⟨3, ![1, 512, 2048]⟩
abbrev S1x4x512x64 : Shape := ⟨4, ![1, 4, 512, 64]⟩
abbrev S1x4x512x1 : Shape := ⟨4, ![1, 4, 512, 1]⟩
abbrev S1x4x1x512 : Shape := ⟨4, ![1, 4, 1, 512]⟩
abbrev S4x2048x64 : Shape := ⟨3, ![4, 2048, 64]⟩
abbrev S4x2048x1 : Shape := ⟨3, ![4, 2048, 1]⟩
abbrev S4x1x2048 : Shape := ⟨3, ![4, 1, 2048]⟩
abbrev S2048x128 : Shape := ⟨2, ![2048, 128]⟩
abbrev S1x128x64 : Shape := ⟨3, ![1, 128, 64]⟩
abbrev S128x64 : Shape := ⟨2, ![128, 64]⟩
abbrev S2048x64 : Shape := ⟨2, ![2048, 64]⟩
abbrev S1x2048x64 : Shape := ⟨3, ![1, 2048, 64]⟩
abbrev S1x64x1 : Shape := ⟨3, ![1, 64, 1]⟩
abbrev S64x1 : Shape := ⟨2, ![64, 1]⟩
abbrev S2048x1 : Shape := ⟨2, ![2048, 1]⟩
abbrev S1x2048x1 : Shape := ⟨3, ![1, 2048, 1]⟩
abbrev S1x2048 : Shape := ⟨2, ![1, 2048]⟩
abbrev S1x1x2048 : Shape := ⟨3, ![1, 1, 2048]⟩
abbrev S512x2048 : Shape := ⟨2, ![512, 2048]⟩
abbrev S1x512x1 : Shape := ⟨3, ![1, 512, 1]⟩
abbrev S512x1 : Shape := ⟨2, ![512, 1]⟩
abbrev S1 : Shape := ⟨1, ![1]⟩
abbrev S1x1x1 : Shape := ⟨3, ![1, 1, 1]⟩
abbrev S2048x65 : Shape := ⟨2, ![2048, 65]⟩
abbrev S512x65 : Shape := ⟨2, ![512, 65]⟩
abbrev S512x64 : Shape := ⟨2, ![512, 64]⟩
abbrev S512x256 : Shape := ⟨2, ![512, 256]⟩
abbrev S1x256x64 : Shape := ⟨3, ![1, 256, 64]⟩
abbrev S256x64 : Shape := ⟨2, ![256, 64]⟩
abbrev S1x1x512x64 : Shape := ⟨4, ![1, 1, 512, 64]⟩
abbrev S1x1x512x1 : Shape := ⟨4, ![1, 1, 512, 1]⟩
abbrev S1x512 : Shape := ⟨2, ![1, 512]⟩
abbrev S1x1x1x512 : Shape := ⟨4, ![1, 1, 1, 512]⟩
abbrev S4x2048x256 : Shape := ⟨3, ![4, 2048, 256]⟩
abbrev S4x4x2048x2048 : Shape := ⟨4, ![4, 4, 2048, 2048]⟩
abbrev S1x4x256x1 : Shape := ⟨4, ![1, 4, 256, 1]⟩
abbrev S1x4x1x2048 : Shape := ⟨4, ![1, 4, 1, 2048]⟩
abbrev S1x256x2048 : Shape := ⟨3, ![1, 256, 2048]⟩
abbrev S1x4x2048x64 : Shape := ⟨4, ![1, 4, 2048, 64]⟩
abbrev S1x256x256 : Shape := ⟨3, ![1, 256, 256]⟩
abbrev S1x4x256x2048 : Shape := ⟨4, ![1, 4, 256, 2048]⟩
abbrev S256x2048 : Shape := ⟨2, ![256, 2048]⟩
abbrev S1x1x256x1 : Shape := ⟨4, ![1, 1, 256, 1]⟩
abbrev S256x1 : Shape := ⟨2, ![256, 1]⟩
abbrev S1x1x1x2048 : Shape := ⟨4, ![1, 1, 1, 2048]⟩
abbrev S1x1x2048x64 : Shape := ⟨4, ![1, 1, 2048, 64]⟩
abbrev S256x65 : Shape := ⟨2, ![256, 65]⟩
abbrev S1x1x256x2048 : Shape := ⟨4, ![1, 1, 256, 2048]⟩

abbrev nBuf : Space → Nat
  | .hbm => 18
  | .vmem => 35
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .hbm, ⟨2, _⟩ => ⟨S4x128x64, .f32⟩
  | .hbm, ⟨3, _⟩ => ⟨S4x64x1, .f32⟩
  | .hbm, ⟨4, _⟩ => ⟨S4x64x1, .f32⟩
  | .hbm, ⟨5, _⟩ => ⟨S64, .f32⟩
  | .hbm, ⟨6, _⟩ => ⟨S4x256x64, .f32⟩
  | .hbm, ⟨7, _⟩ => ⟨S4x64x1, .f32⟩
  | .hbm, ⟨8, _⟩ => ⟨S4x64x1, .f32⟩
  | .hbm, ⟨9, _⟩ => ⟨S64, .f32⟩
  | .hbm, ⟨10, _⟩ => ⟨S1x64, .f32⟩
  | .hbm, ⟨11, _⟩ => ⟨S4x2048x2048, .i8⟩
  | .hbm, ⟨12, _⟩ => ⟨S4x4x2048x64, .f32⟩
  | .hbm, ⟨13, _⟩ => ⟨S4x4x2048x1, .f32⟩
  | .hbm, ⟨14, _⟩ => ⟨S4x4x1x2048, .f32⟩
  | .hbm, ⟨15, _⟩ => ⟨S1x64, .f32⟩
  | .hbm, ⟨16, _⟩ => ⟨S4x2048x256, .f32⟩
  | .hbm, ⟨17, _⟩ => ⟨S4x4x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S4x128x64, .f32⟩
  | .local _ .vmem, ⟨3, _⟩ => ⟨S4x64x1, .f32⟩
  | .local _ .vmem, ⟨4, _⟩ => ⟨S4x64x1, .f32⟩
  | .local _ .vmem, ⟨5, _⟩ => ⟨S1x512x2048, .f32⟩
  | .local _ .vmem, ⟨6, _⟩ => ⟨S1x512x2048, .f32⟩
  | .local _ .vmem, ⟨7, _⟩ => ⟨S1x64, .f32⟩
  | .local _ .vmem, ⟨8, _⟩ => ⟨S4x256x64, .f32⟩
  | .local _ .vmem, ⟨9, _⟩ => ⟨S4x64x1, .f32⟩
  | .local _ .vmem, ⟨10, _⟩ => ⟨S4x64x1, .f32⟩
  | .local _ .vmem, ⟨11, _⟩ => ⟨S1x512x2048, .i8⟩
  | .local _ .vmem, ⟨12, _⟩ => ⟨S1x512x2048, .i8⟩
  | .local _ .vmem, ⟨13, _⟩ => ⟨S1x4x512x64, .f32⟩
  | .local _ .vmem, ⟨14, _⟩ => ⟨S1x4x512x64, .f32⟩
  | .local _ .vmem, ⟨15, _⟩ => ⟨S1x4x512x1, .f32⟩
  | .local _ .vmem, ⟨16, _⟩ => ⟨S1x4x512x1, .f32⟩
  | .local _ .vmem, ⟨17, _⟩ => ⟨S1x4x1x512, .f32⟩
  | .local _ .vmem, ⟨18, _⟩ => ⟨S1x4x1x512, .f32⟩
  | .local _ .vmem, ⟨19, _⟩ => ⟨S4x2048x64, .f32⟩
  | .local _ .vmem, ⟨20, _⟩ => ⟨S4x2048x1, .f32⟩
  | .local _ .vmem, ⟨21, _⟩ => ⟨S4x1x2048, .f32⟩
  | .local _ .vmem, ⟨22, _⟩ => ⟨S1x4x256x1, .f32⟩
  | .local _ .vmem, ⟨23, _⟩ => ⟨S1x4x256x1, .f32⟩
  | .local _ .vmem, ⟨24, _⟩ => ⟨S1x4x1x2048, .f32⟩
  | .local _ .vmem, ⟨25, _⟩ => ⟨S1x4x1x2048, .f32⟩
  | .local _ .vmem, ⟨26, _⟩ => ⟨S1x256x2048, .i8⟩
  | .local _ .vmem, ⟨27, _⟩ => ⟨S1x256x2048, .i8⟩
  | .local _ .vmem, ⟨28, _⟩ => ⟨S1x4x2048x64, .f32⟩
  | .local _ .vmem, ⟨29, _⟩ => ⟨S1x4x2048x64, .f32⟩
  | .local _ .vmem, ⟨30, _⟩ => ⟨S1x64, .f32⟩
  | .local _ .vmem, ⟨31, _⟩ => ⟨S1x256x256, .f32⟩
  | .local _ .vmem, ⟨32, _⟩ => ⟨S1x256x256, .f32⟩
  | .local _ .vmem, ⟨33, _⟩ => ⟨S1x4x256x2048, .f32⟩
  | .local _ .vmem, ⟨34, _⟩ => ⟨S1x4x256x2048, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg5_1 : Ref sig .tc := ⟨.vmem, 32, rfl⟩
abbrev cc1_stg6_0 : Ref sig .tc := ⟨.vmem, 33, rfl⟩
abbrev cc1_stg6_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem5_1 : DmaSem sig := 29
abbrev cc1_sem6_0 : DmaSem sig := 30
abbrev cc1_sem6_1 : DmaSem sig := 31

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let c0_5 : Index := 0#32
  let arg1 : BitVec 32 := BitVec.ofNat 32 (i 1).val
  let c1_i32 : BitVec 32 := 1#32
  let v8 : BitVec 32 := Scalar.subi arg1 c1_i32
  let c512_i32 : BitVec 32 := 512#32
  let v9 : BitVec 32 := Scalar.muli v8 c512_i32
  let v10 : Index := Scalar.indexCast v9
  let c0_6 : Index := 0#32
  ![0, v10.toNat, 0]
def k0_off2 (i : grid0.Coords) : Fin 3 → Nat :=
  let c1 : Index := 1#32
  let arg1 : BitVec 32 := BitVec.ofNat 32 (i 1).val
  let c1_i32 : BitVec 32 := 1#32
  let v8 : BitVec 32 := Scalar.subi arg1 c1_i32
  let c512_i32 : BitVec 32 := 512#32
  let v9 : BitVec 32 := Scalar.muli v8 c512_i32
  let v76 : Index := Scalar.indexCast v9
  let c0_27 : Index := 0#32
  ![1, v76.toNat, 0]
def k0_off3 (i : grid0.Coords) : Fin 3 → Nat :=
  let c2 : Index := 2#32
  let arg1 : BitVec 32 := BitVec.ofNat 32 (i 1).val
  let c1_i32 : BitVec 32 := 1#32
  let v8 : BitVec 32 := Scalar.subi arg1 c1_i32
  let c512_i32 : BitVec 32 := 512#32
  let v9 : BitVec 32 := Scalar.muli v8 c512_i32
  let v142 : Index := Scalar.indexCast v9
  let c0_49 : Index := 0#32
  ![2, v142.toNat, 0]
def k0_off4 (i : grid0.Coords) : Fin 3 → Nat :=
  let c3 : Index := 3#32
  let arg1 : BitVec 32 := BitVec.ofNat 32 (i 1).val
  let c1_i32 : BitVec 32 := 1#32
  let v8 : BitVec 32 := Scalar.subi arg1 c1_i32
  let c512_i32 : BitVec 32 := 512#32
  let v9 : BitVec 32 := Scalar.muli v8 c512_i32
  let v208 : Index := Scalar.indexCast v9
  let c0_71 : Index := 0#32
  ![3, v208.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, c0_i32_1.toNat, v1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x4x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2048 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x4x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "neg_rest" => some ((-53687091 / 67108864 : ℝ) : EReal)
  | "rest" => some ((53687091 / 67108864 : ℝ) : EReal)
  | _ => none
-- ==== ReferenceIdeal.lean ====
abbrev S4x2048x128 : Shape := ⟨3, ![4, 2048, 128]⟩
abbrev S4x2048x2048 : Shape := ⟨3, ![4, 2048, 2048]⟩
abbrev S4x128x64 : Shape := ⟨3, ![4, 128, 64]⟩
abbrev S4x64x1 : Shape := ⟨3, ![4, 64, 1]⟩
abbrev S64 : Shape := ⟨1, ![64]⟩
abbrev S4x256x64 : Shape := ⟨3, ![4, 256, 64]⟩
abbrev S4x64x4x2048 : Shape := ⟨4, ![4, 64, 4, 2048]⟩
abbrev S4x4x2048x64 : Shape := ⟨4, ![4, 4, 2048, 64]⟩
abbrev S4x1x4x2048 : Shape := ⟨4, ![4, 1, 4, 2048]⟩
abbrev S4x4x2048x1 : Shape := ⟨4, ![4, 4, 2048, 1]⟩
abbrev S4x4x1x2048 : Shape := ⟨4, ![4, 4, 1, 2048]⟩
abbrev S4x4x2048x2048 : Shape := ⟨4, ![4, 4, 2048, 2048]⟩
abbrev S_ : Shape := ⟨0, ![]⟩
abbrev S4x1x2048x2048 : Shape := ⟨4, ![4, 1, 2048, 2048]⟩
abbrev S4x1x2048 : Shape := ⟨3, ![4, 1, 2048]⟩
abbrev S4x1x2048x1 : Shape := ⟨4, ![4, 1, 2048, 1]⟩
abbrev S4x4x2048 : Shape := ⟨3, ![4, 4, 2048]⟩
abbrev S1x1x1x64 : Shape := ⟨4, ![1, 1, 1, 64]⟩
abbrev S4x2048x4x64 : Shape := ⟨4, ![4, 2048, 4, 64]⟩
abbrev S4x2048x256 : Shape := ⟨3, ![4, 2048, 256]⟩

abbrev nBuf : Space → Nat
  | .hbm => 116
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .hbm, ⟨2, _⟩ => ⟨S4x128x64, .f32⟩
  | .hbm, ⟨3, _⟩ => ⟨S4x64x1, .f32⟩
  | .hbm, ⟨4, _⟩ => ⟨S4x64x1, .f32⟩
  | .hbm, ⟨5, _⟩ => ⟨S64, .f32⟩
  | .hbm, ⟨6, _⟩ => ⟨S4x256x64, .f32⟩
  | .hbm, ⟨7, _⟩ => ⟨S4x64x1, .f32⟩
  | .hbm, ⟨8, _⟩ => ⟨S4x64x1, .f32⟩
  | .hbm, ⟨9, _⟩ => ⟨S64, .f32⟩
  | .hbm, ⟨10, _⟩ => ⟨S4x64x4x2048, .f32⟩
  | .hbm, ⟨11, _⟩ => ⟨S4x4x2048x64, .f32⟩
  | .hbm, ⟨12, _⟩ => ⟨S4x4x2048x64, .f32⟩
  | .hbm, ⟨13, _⟩ => ⟨S4x1x4x2048, .f32⟩
  | .hbm, ⟨14, _⟩ => ⟨S4x4x2048x1, .f32⟩
  | .hbm, ⟨15, _⟩ => ⟨S4x1x4x2048, .f32⟩
  | .hbm, ⟨16, _⟩ => ⟨S4x4x2048x1, .f32⟩
  | .hbm, ⟨17, _⟩ => ⟨S4x4x1x2048, .f32⟩
  | .hbm, ⟨18, _⟩ => ⟨S4x4x2048x2048, .f32⟩
  | .hbm, ⟨19, _⟩ => ⟨S4x4x2048x2048, .f32⟩
  | .hbm, ⟨20, _⟩ => ⟨S4x4x2048x2048, .f32⟩
  | .hbm, ⟨21, _⟩ => ⟨S_, .f32⟩
  | .hbm, ⟨22, _⟩ => ⟨S4x4x2048x2048, .f32⟩
  | .hbm, ⟨23, _⟩ => ⟨S4x4x2048x2048, .i1⟩
  | .hbm, ⟨24, _⟩ => ⟨S_, .f32⟩
  | .hbm, ⟨25, _⟩ => ⟨S4x4x2048x2048, .f32⟩
  | .hbm, ⟨26, _⟩ => ⟨S4x4x2048x2048, .f32⟩
  | .hbm, ⟨27, _⟩ => ⟨S4x4x2048x2048, .f32⟩
  | .hbm, ⟨28, _⟩ => ⟨S4x1x2048x2048, .f32⟩
  | .hbm, ⟨29, _⟩ => ⟨S_, .f32⟩
  | .hbm, ⟨30, _⟩ => ⟨S4x1x2048x2048, .f32⟩
  | .hbm, ⟨31, _⟩ => ⟨S4x1x2048x2048, .i1⟩
  | .hbm, ⟨32, _⟩ => ⟨S_, .i1⟩
  | .hbm, ⟨33, _⟩ => ⟨S4x1x2048, .i1⟩
  | .hbm, ⟨34, _⟩ => ⟨S4x1x2048x1, .i1⟩
  | .hbm, ⟨35, _⟩ => ⟨S_, .f32⟩
  | .hbm, ⟨36, _⟩ => ⟨S_, .f32⟩
  | .hbm, ⟨37, _⟩ => ⟨S4x1x2048x1, .f32⟩
  | .hbm, ⟨38, _⟩ => ⟨S4x1x2048x1, .f32⟩
  | .hbm, ⟨39, _⟩ => ⟨S4x1x2048x1, .f32⟩
  | .hbm, ⟨40, _⟩ => ⟨S4x4x2048x2048, .i1⟩
  | .hbm, ⟨41, _⟩ => ⟨S4x4x2048x2048, .f32⟩
  | .hbm, ⟨42, _⟩ => ⟨S4x4x2048x2048, .f32⟩
  | .hbm, ⟨43, _⟩ => ⟨S_, .f32⟩
  | .hbm, ⟨44, _⟩ => ⟨S4x4x2048, .f32⟩
  | .hbm, ⟨45, _⟩ => ⟨S_, .f32⟩
  | .hbm, ⟨46, _⟩ => ⟨S4x4x2048, .f32⟩
  | .hbm, ⟨47, _⟩ => ⟨S4x4x2048, .f32⟩
  | .hbm, ⟨48, _⟩ => ⟨S4x4x2048x1, .f32⟩
  | .hbm, ⟨49, _⟩ => ⟨S4x4x2048x2048, .f32⟩
  | .hbm, ⟨50, _⟩ => ⟨S4x4x2048x2048, .f32⟩
  | .hbm, ⟨51, _⟩ => ⟨S4x4x2048x2048, .f32⟩
  | .hbm, ⟨52, _⟩ => ⟨S_, .f32⟩
  | .hbm, ⟨53, _⟩ => ⟨S4x4x2048, .f32⟩
  | .hbm, ⟨54, _⟩ => ⟨S4x4x2048x1, .f32⟩
  | .hbm, ⟨55, _⟩ => ⟨S4x4x2048x2048, .f32⟩
  | .hbm, ⟨56, _⟩ => ⟨S4x4x2048x2048, .f32⟩
  | .hbm, ⟨57, _⟩ => ⟨S4x4x2048x64, .f32⟩
  | .hbm, ⟨58, _⟩ => ⟨S1x1x1x64, .f32⟩
  | .hbm, ⟨59, _⟩ => ⟨S4x4x2048x64, .f32⟩
  | .hbm, ⟨60, _⟩ => ⟨S4x4x2048x64, .f32⟩
  | .hbm, ⟨61, _⟩ => ⟨S4x2048x4x64, .f32⟩
  | .hbm, ⟨62, _⟩ => ⟨S4x2048x256, .f32⟩
  | .hbm, ⟨63, _⟩ => ⟨S4x64x4x2048, .f32⟩
  | .hbm, ⟨64, _⟩ => ⟨S4x4x2048x64, .f32⟩
  | .hbm, ⟨65, _⟩ => ⟨S4x4x2048x64, .f32⟩
  | .hbm, ⟨66, _⟩ => ⟨S4x1x4x2048, .f32⟩
  | .hbm, ⟨67, _⟩ => ⟨S4x4x2048x1, .f32⟩
  | .hbm, ⟨68, _⟩ => ⟨S4x1x4x2048, .f32⟩
  | .hbm, ⟨69, _⟩ => ⟨S4x4x2048x1, .f32⟩
  | .hbm, ⟨70, _⟩ => ⟨S4x4x1x2048, .f32⟩
  | .hbm, ⟨71, _⟩ => ⟨S4x4x2048x2048, .f32⟩
  | .hbm, ⟨72, _⟩ => ⟨S4x4x2048x2048, .f32⟩
  | .hbm, ⟨73, _⟩ => ⟨S4x4x2048x2048, .f32⟩
  | .hbm, ⟨74, _⟩ => ⟨S_, .f32⟩
  | .hbm, ⟨75, _⟩ => ⟨S4x4x2048x2048, .f32⟩
  | .hbm, ⟨76, _⟩ => ⟨S4x4x2048x2048, .i1⟩
  | .hbm, ⟨77, _⟩ => ⟨S_, .f32⟩
  | .hbm, ⟨78, _⟩ => ⟨S4x4x2048x2048, .f32⟩
  | .hbm, ⟨79, _⟩ => ⟨S4x4x2048x2048, .f32⟩
  | .hbm, ⟨80, _⟩ => ⟨S4x4x2048x2048, .f32⟩
  | .hbm, ⟨81, _⟩ => ⟨S4x1x2048x2048, .f32⟩
  | .hbm, ⟨82, _⟩ => ⟨S_, .f32⟩
  | .hbm, ⟨83, _⟩ => ⟨S4x1x2048x2048, .f32⟩
  | .hbm, ⟨84, _⟩ => ⟨S4x1x2048x2048, .i1⟩
  | .hbm, ⟨85, _⟩ => ⟨S_, .i1⟩
  | .hbm, ⟨86, _⟩ => ⟨S4x1x2048, .i1⟩
  | .hbm, ⟨87, _⟩ => ⟨S4x1x2048x1, .i1⟩
  | .hbm, ⟨88, _⟩ => ⟨S_, .f32⟩
  | .hbm, ⟨89, _⟩ => ⟨S_, .f32⟩
  | .hbm, ⟨90, _⟩ => ⟨S4x1x2048x1, .f32⟩
  | .hbm, ⟨91, _⟩ => ⟨S4x1x2048x1, .f32⟩
  | .hbm, ⟨92, _⟩ => ⟨S4x1x2048x1, .f32⟩
  | .hbm, ⟨93, _⟩ => ⟨S4x4x2048x2048, .i1⟩
  | .hbm, ⟨94, _⟩ => ⟨S4x4x2048x2048, .f32⟩
  | .hbm, ⟨95, _⟩ => ⟨S4x4x2048x2048, .f32⟩
  | .hbm, ⟨96, _⟩ => ⟨S_, .f32⟩
  | .hbm, ⟨97, _⟩ => ⟨S4x4x2048, .f32⟩
  | .hbm, ⟨98, _⟩ => ⟨S_, .f32⟩
  | .hbm, ⟨99, _⟩ => ⟨S4x4x2048, .f32⟩
  | .hbm, ⟨100, _⟩ => ⟨S4x4x2048, .f32⟩
  | .hbm, ⟨101, _⟩ => ⟨S4x4x2048x1, .f32⟩
  | .hbm, ⟨102, _⟩ => ⟨S4x4x2048x2048, .f32⟩
  | .hbm, ⟨103, _⟩ => ⟨S4x4x2048x2048, .f32⟩
  | .hbm, ⟨104, _⟩ => ⟨S4x4x2048x2048, .f32⟩
  | .hbm, ⟨105, _⟩ => ⟨S_, .f32⟩
  | .hbm, ⟨106, _⟩ => ⟨S4x4x2048, .f32⟩
  | .hbm, ⟨107, _⟩ => ⟨S4x4x2048x1, .f32⟩
  | .hbm, ⟨108, _⟩ => ⟨S4x4x2048x2048, .f32⟩
  | .hbm, ⟨109, _⟩ => ⟨S4x4x2048x2048, .f32⟩
  | .hbm, ⟨110, _⟩ => ⟨S4x4x2048x64, .f32⟩
  | .hbm, ⟨111, _⟩ => ⟨S1x1x1x64, .f32⟩
  | .hbm, ⟨112, _⟩ => ⟨S4x4x2048x64, .f32⟩
  | .hbm, ⟨113, _⟩ => ⟨S4x4x2048x64, .f32⟩
  | .hbm, ⟨114, _⟩ => ⟨S4x2048x4x64, .f32⟩
  | .hbm, ⟨115, _⟩ => ⟨S4x2048x256, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_call2_v0 : Ref sig .tc := ⟨.hbm, 40, rfl⟩
abbrev main_call2_v1 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_cst_12 : Ref sig .tc := ⟨.hbm, 89, rfl⟩
abbrev main_call4_v0 : Ref sig .tc := ⟨.hbm, 90, rfl⟩
abbrev main_call4_v1 : Ref sig .tc := ⟨.hbm, 91, rfl⟩
abbrev main_v61 : Ref sig .tc := ⟨.hbm, 92, rfl⟩
abbrev main_call5_v0 : Ref sig .tc := ⟨.hbm, 93, rfl⟩
abbrev main_call5_v1 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== Proof.Ideal.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! # What the first call's body leaves in its buffers

The first call's grid runs, per batch, one projection step and then four attention steps.  The projection step fills
three carried buffers (the projected rows, the source scores, the destination scores), and touches no result; an
attention step reads them and stores a block of each of the four results.  Here both are written as functions of the
blocks the step is given, and the body is shown to compute them. -/

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

abbrev rX : Rect S1x2048x128 := Rect.unit (s := S1x2048x128) ![0, 0, 0] S1x2048x128.size inb_S1x2048x128_S1x2048x128_0_0_0
abbrev rAdj : Rect S1x512x2048 := Rect.unit (s := S1x512x2048) ![0, 0, 0] S1x512x2048.size inb_S1x512x2048_S1x512x2048_0_0_0
abbrev rB : Rect S1x64 := Rect.unit (s := S1x64) ![0, 0] S1x64.size inb_S1x64_S1x64_0_0
abbrev rW0 : Rect S4x128x64 := Rect.unit (s := S4x128x64) ![0, 0, 0] S1x128x64.size inb_S4x128x64_S1x128x64_0_0_0
abbrev rA0 : Rect S4x64x1 := Rect.unit (s := S4x64x1) ![0, 0, 0] S1x64x1.size inb_S4x64x1_S1x64x1_0_0_0
abbrev rH0 : Rect S4x2048x64 := Rect.unit (s := S4x2048x64) ![0, 0, 0] S1x2048x64.size inb_S4x2048x64_S1x2048x64_0_0_0
abbrev rS0 : Rect S4x2048x1 := Rect.unit (s := S4x2048x1) ![0, 0, 0] S1x2048x1.size inb_S4x2048x1_S1x2048x1_0_0_0
abbrev rD0 : Rect S4x1x2048 := Rect.unit (s := S4x1x2048) ![0, 0, 0] S1x1x2048.size inb_S4x1x2048_S1x1x2048_0_0_0
abbrev rV0 : Rect S4x256x64 := Rect.unit (s := S4x256x64) ![0, 0, 0] S1x256x64.size inb_S4x256x64_S1x256x64_0_0_0
abbrev rOH0 : Rect S1x4x512x64 := Rect.unit (s := S1x4x512x64) ![0, 0, 0, 0] S1x1x512x64.size inb_S1x4x512x64_S1x1x512x64_0_0_0_0
abbrev rOS0 : Rect S1x4x512x1 := Rect.unit (s := S1x4x512x1) ![0, 0, 0, 0] S1x1x512x1.size inb_S1x4x512x1_S1x1x512x1_0_0_0_0
abbrev rOD0 : Rect S1x4x1x512 := Rect.unit (s := S1x4x1x512) ![0, 0, 0, 0] S1x1x1x512.size inb_S1x4x1x512_S1x1x1x512_0_0_0_0
abbrev rW1 : Rect S4x128x64 := Rect.unit (s := S4x128x64) ![1, 0, 0] S1x128x64.size inb_S4x128x64_S1x128x64_1_0_0
abbrev rA1 : Rect S4x64x1 := Rect.unit (s := S4x64x1) ![1, 0, 0] S1x64x1.size inb_S4x64x1_S1x64x1_1_0_0
abbrev rH1 : Rect S4x2048x64 := Rect.unit (s := S4x2048x64) ![1, 0, 0] S1x2048x64.size inb_S4x2048x64_S1x2048x64_1_0_0
abbrev rS1 : Rect S4x2048x1 := Rect.unit (s := S4x2048x1) ![1, 0, 0] S1x2048x1.size inb_S4x2048x1_S1x2048x1_1_0_0
abbrev rD1 : Rect S4x1x2048 := Rect.unit (s := S4x1x2048) ![1, 0, 0] S1x1x2048.size inb_S4x1x2048_S1x1x2048_1_0_0
abbrev rV1 : Rect S4x256x64 := Rect.unit (s := S4x256x64) ![1, 0, 0] S1x256x64.size inb_S4x256x64_S1x256x64_1_0_0
abbrev rOH1 : Rect S1x4x512x64 := Rect.unit (s := S1x4x512x64) ![0, 1, 0, 0] S1x1x512x64.size inb_S1x4x512x64_S1x1x512x64_0_1_0_0
abbrev rOS1 : Rect S1x4x512x1 := Rect.unit (s := S1x4x512x1) ![0, 1, 0, 0] S1x1x512x1.size inb_S1x4x512x1_S1x1x512x1_0_1_0_0
abbrev rOD1 : Rect S1x4x1x512 := Rect.unit (s := S1x4x1x512) ![0, 1, 0, 0] S1x1x1x512.size inb_S1x4x1x512_S1x1x1x512_0_1_0_0
abbrev rW2 : Rect S4x128x64 := Rect.unit (s := S4x128x64) ![2, 0, 0] S1x128x64.size inb_S4x128x64_S1x128x64_2_0_0
abbrev rA2 : Rect S4x64x1 := Rect.unit (s := S4x64x1) ![2, 0, 0] S1x64x1.size inb_S4x64x1_S1x64x1_2_0_0
abbrev rH2 : Rect S4x2048x64 := Rect.unit (s := S4x2048x64) ![2, 0, 0] S1x2048x64.size inb_S4x2048x64_S1x2048x64_2_0_0
abbrev rS2 : Rect S4x2048x1 := Rect.unit (s := S4x2048x1) ![2, 0, 0] S1x2048x1.size inb_S4x2048x1_S1x2048x1_2_0_0
abbrev rD2 : Rect S4x1x2048 := Rect.unit (s := S4x1x2048) ![2, 0, 0] S1x1x2048.size inb_S4x1x2048_S1x1x2048_2_0_0
abbrev rV2 : Rect S4x256x64 := Rect.unit (s := S4x256x64) ![2, 0, 0] S1x256x64.size inb_S4x256x64_S1x256x64_2_0_0
abbrev rOH2 : Rect S1x4x512x64 := Rect.unit (s := S1x4x512x64) ![0, 2, 0, 0] S1x1x512x64.size inb_S1x4x512x64_S1x1x512x64_0_2_0_0
abbrev rOS2 : Rect S1x4x512x1 := Rect.unit (s := S1x4x512x1) ![0, 2, 0, 0] S1x1x512x1.size inb_S1x4x512x1_S1x1x512x1_0_2_0_0
abbrev rOD2 : Rect S1x4x1x512 := Rect.unit (s := S1x4x1x512) ![0, 2, 0, 0] S1x1x1x512.size inb_S1x4x1x512_S1x1x1x512_0_2_0_0
abbrev rW3 : Rect S4x128x64 := Rect.unit (s := S4x128x64) ![3, 0, 0] S1x128x64.size inb_S4x128x64_S1x128x64_3_0_0
abbrev rA3 : Rect S4x64x1 := Rect.unit (s := S4x64x1) ![3, 0, 0] S1x64x1.size inb_S4x64x1_S1x64x1_3_0_0
abbrev rH3 : Rect S4x2048x64 := Rect.unit (s := S4x2048x64) ![3, 0, 0] S1x2048x64.size inb_S4x2048x64_S1x2048x64_3_0_0
abbrev rS3 : Rect S4x2048x1 := Rect.unit (s := S4x2048x1) ![3, 0, 0] S1x2048x1.size inb_S4x2048x1_S1x2048x1_3_0_0
abbrev rD3 : Rect S4x1x2048 := Rect.unit (s := S4x1x2048) ![3, 0, 0] S1x1x2048.size inb_S4x1x2048_S1x1x2048_3_0_0
abbrev rV3 : Rect S4x256x64 := Rect.unit (s := S4x256x64) ![3, 0, 0] S1x256x64.size inb_S4x256x64_S1x256x64_3_0_0
abbrev rOH3 : Rect S1x4x512x64 := Rect.unit (s := S1x4x512x64) ![0, 3, 0, 0] S1x1x512x64.size inb_S1x4x512x64_S1x1x512x64_0_3_0_0
abbrev rOS3 : Rect S1x4x512x1 := Rect.unit (s := S1x4x512x1) ![0, 3, 0, 0] S1x1x512x1.size inb_S1x4x512x1_S1x1x512x1_0_3_0_0
abbrev rOD3 : Rect S1x4x1x512 := Rect.unit (s := S1x4x1x512) ![0, 3, 0, 0] S1x1x1x512.size inb_S1x4x1x512_S1x1x1x512_0_3_0_0

/-! ## The projection step -/

/-- The carried projected rows after a projection step on the block `x` of features and the weights `w`. -/
def projH (x : Vec F S1x2048x128 .f32) (w : Vec F S4x128x64 .f32) : Vec F S4x2048x64 .f32 :=
  View.canon [⟨rH3, k0_pay4 (k0_pay9 (View.ld x rX)) (View.ld w rW3)⟩,
    ⟨rH2, k0_pay22 (k0_pay9 (View.ld x rX)) (View.ld w rW2)⟩,
    ⟨rH1, k0_pay17 (k0_pay15 (View.ld x rX) (View.ld w rW1))⟩,
    ⟨rH0, k0_pay12 (View.ld x rX) (View.ld w rW0)⟩]

/-- The carried source scores after a projection step. -/
def projS (x : Vec F S1x2048x128 .f32) (w : Vec F S4x128x64 .f32) (a : Vec F S4x64x1 .f32) : Vec F S4x2048x1 .f32 :=
  View.canon [⟨rS3, k0_pay5 (k0_pay9 (View.ld x rX)) (View.ld w rW3) (View.ld a rA3)⟩,
    ⟨rS2, k0_pay23 (k0_pay9 (View.ld x rX)) (View.ld w rW2) (View.ld a rA2)⟩,
    ⟨rS1, k0_pay18 (k0_pay16 (View.ld x rX) (View.ld w rW1)) (View.ld a rA1)⟩,
    ⟨rS0, k0_pay13 (View.ld x rX) (View.ld w rW0) (View.ld a rA0)⟩]

/-- The carried destination scores after a projection step. -/
def projD (x : Vec F S1x2048x128 .f32) (w : Vec F S4x128x64 .f32) (a : Vec F S4x64x1 .f32) : Vec F S4x1x2048 .f32 :=
  View.canon [⟨rD3, k0_pay6 (k0_pay9 (View.ld x rX)) (View.ld w rW3) (View.ld a rA3)⟩,
    ⟨rD2, k0_pay1 (k0_pay21 (k0_pay9 (View.ld x rX)) (View.ld w rW2)) (View.ld a rA2)⟩,
    ⟨rD1, k0_pay19 (k0_pay16 (View.ld x rX) (View.ld w rW1)) (View.ld a rA1)⟩,
    ⟨rD0, k0_pay14 (View.ld x rX) (View.ld w rW0) (View.ld a rA0)⟩]

/-- The four stores of the projected rows cover their buffer. -/
theorem cover_projH (p0 p1 p2 p3 : Vec F S1x2048x64 .f32) (y : S4x2048x64.Idx) :
    ∃ pc ∈ ([⟨rH3, p3⟩, ⟨rH2, p2⟩, ⟨rH1, p1⟩, ⟨rH0, p0⟩] : List (View.Piece (Elt F) S4x2048x64 .f32)), y ∈ pc.1.set :=
  View.cover_of_tiled [⟨rH3, p3⟩, ⟨rH2, p2⟩, ⟨rH1, p1⟩, ⟨rH0, p0⟩] S1x2048x64.size (by rfl) y
/-- The four stores of the source scores cover their buffer. -/
theorem cover_projS (p0 p1 p2 p3 : Vec F S1x2048x1 .f32) (y : S4x2048x1.Idx) :
    ∃ pc ∈ ([⟨rS3, p3⟩, ⟨rS2, p2⟩, ⟨rS1, p1⟩, ⟨rS0, p0⟩] : List (View.Piece (Elt F) S4x2048x1 .f32)), y ∈ pc.1.set :=
  View.cover_of_tiled [⟨rS3, p3⟩, ⟨rS2, p2⟩, ⟨rS1, p1⟩, ⟨rS0, p0⟩] S1x2048x1.size (by rfl) y
/-- The four stores of the destination scores cover their buffer. -/
theorem cover_projD (p0 p1 p2 p3 : Vec F S1x1x2048 .f32) (y : S4x1x2048.Idx) :
    ∃ pc ∈ ([⟨rD3, p3⟩, ⟨rD2, p2⟩, ⟨rD1, p1⟩, ⟨rD0, p0⟩] : List (View.Piece (Elt F) S4x1x2048 .f32)), y ∈ pc.1.set :=
  View.cover_of_tiled [⟨rD3, p3⟩, ⟨rD2, p2⟩, ⟨rD1, p1⟩, ⟨rD0, p0⟩] S1x1x2048.size (by rfl) y

/-! ## The attention step -/

/-- The source scores of the rows an attention step works on, per head (at a projection step, where nothing is
    read, the first rows). -/
def rowsOf (i : grid0.Coords) (s : Vec F S4x2048x1 .f32) : Fin 4 → Vec F S1x512x1 .f32 :=
  if h : k0_cond2 i = 1#1 then
    ![View.ld s (Rect.unit (s := S4x2048x1) (k0_off1 i) S1x512x1.size (k0_off1_inb i h)),
      View.ld s (Rect.unit (s := S4x2048x1) (k0_off2 i) S1x512x1.size (k0_off2_inb i h)),
      View.ld s (Rect.unit (s := S4x2048x1) (k0_off3 i) S1x512x1.size (k0_off3_inb i h)),
      View.ld s (Rect.unit (s := S4x2048x1) (k0_off4 i) S1x512x1.size (k0_off4_inb i h))]
  else fun _ _ => s (fun _ => ⟨0, by rename_i j; fin_cases j <;> decide⟩)

/-- Head 0's attention output rows, its bias added. -/
def head0 (adj : Vec F S1x512x2048 .f32) (b : Vec F S1x64 .f32) (h : Vec F S4x2048x64 .f32)
    (u : Fin 4 → Vec F S1x512x1 .f32) (d : Vec F S4x1x2048 .f32) : FVec F S512x64 .f32 :=
  k0_pay26 (k0_pay25 (View.ld adj rAdj) (u 0) (View.ld d rD0)) (View.ld h rH0) (View.ld b rB)
/-- Head 1's attention output rows, its bias added. -/
def head1 (adj : Vec F S1x512x2048 .f32) (b : Vec F S1x64 .f32) (h : Vec F S4x2048x64 .f32)
    (u : Fin 4 → Vec F S1x512x1 .f32) (d : Vec F S4x1x2048 .f32) : FVec F S512x64 .f32 :=
  k0_pay33 (k0_pay32 (k0_pay24 (View.ld adj rAdj)) (k0_pay27 (View.ld d rD1)) (k0_pay28 (View.ld d rD1))
    (k0_pay29 (u 1) (View.ld d rD1)) (k0_pay30 (u 1) (View.ld d rD1)) k0_pay31 (View.ld h rH1)) (View.ld b rB)
/-- Head 2's attention output rows, its bias added. -/
def head2 (adj : Vec F S1x512x2048 .f32) (b : Vec F S1x64 .f32) (h : Vec F S4x2048x64 .f32)
    (u : Fin 4 → Vec F S1x512x1 .f32) (d : Vec F S4x1x2048 .f32) : FVec F S512x64 .f32 :=
  k0_pay36 (k0_pay34 (k0_pay24 (View.ld adj rAdj)) (u 2) (View.ld d rD2)) (k0_pay35 (View.ld h rH2)) (View.ld b rB)
/-- Head 3's attention output rows, before its bias. -/
def head3 (adj : Vec F S1x512x2048 .f32) (b : Vec F S1x64 .f32) (h : Vec F S4x2048x64 .f32)
    (u : Fin 4 → Vec F S1x512x1 .f32) (d : Vec F S4x1x2048 .f32) : FVec F S512x64 .f32 :=
  k0_pay41 (k0_pay24 (View.ld adj rAdj)) (k0_pay37 (View.ld d rD3)) (k0_pay38 (View.ld d rD3))
    (k0_pay39 (u 3) (View.ld d rD3)) (k0_pay40 (u 3) (View.ld d rD3)) (View.ld h rH3)
/-- The four heads side by side: the rows the second layer's projections read. -/
def allHeads (adj : Vec F S1x512x2048 .f32) (b : Vec F S1x64 .f32) (h : Vec F S4x2048x64 .f32)
    (u : Fin 4 → Vec F S1x512x1 .f32) (d : Vec F S4x1x2048 .f32) : FVec F S512x256 .f32 :=
  k0_pay42 (head0 adj b h u d) (head1 adj b h u d) (head2 adj b h u d) (head3 adj b h u d) (View.ld b rB)

/-- The block of the adjacency, as small integers. -/
def stepAdj (adj : Vec F S1x512x2048 .f32) : Vec F S1x512x2048 .i8 :=
  View.canon [⟨rAdj, k0_pay43 (k0_pay24 (View.ld adj rAdj))⟩]

/-- The block of the second layer's projected rows. -/
def stepH (adj : Vec F S1x512x2048 .f32) (b : Vec F S1x64 .f32) (w : Vec F S4x256x64 .f32) (h : Vec F S4x2048x64 .f32)
    (u : Fin 4 → Vec F S1x512x1 .f32) (d : Vec F S4x1x2048 .f32) : Vec F S1x4x512x64 .f32 :=
  View.canon [⟨rOH3, k0_pay61 (allHeads adj b h u d) (View.ld w rV3)⟩,
    ⟨rOH2, k0_pay56 (k0_pay54 (allHeads adj b h u d) (View.ld w rV2))⟩,
    ⟨rOH1, k0_pay51 (allHeads adj b h u d) (View.ld w rV1)⟩,
    ⟨rOH0, k0_pay46 (head0 adj b h u d) (head1 adj b h u d) (head2 adj b h u d) (head3 adj b h u d) (View.ld b rB) (View.ld w rV0)⟩]

/-- The block of the second layer's source scores. -/
def stepS (adj : Vec F S1x512x2048 .f32) (b : Vec F S1x64 .f32) (w : Vec F S4x256x64 .f32) (a : Vec F S4x64x1 .f32)
    (h : Vec F S4x2048x64 .f32) (u : Fin 4 → Vec F S1x512x1 .f32) (d : Vec F S4x1x2048 .f32) : Vec F S1x4x512x1 .f32 :=
  View.canon [⟨rOS3, k0_pay7 (k0_pay62 (allHeads adj b h u d) (View.ld w rV3) (View.ld a rA3))⟩,
    ⟨rOS2, k0_pay57 (k0_pay55 (allHeads adj b h u d) (View.ld w rV2)) (View.ld a rA2)⟩,
    ⟨rOS1, k0_pay52 (allHeads adj b h u d) (View.ld w rV1) (View.ld a rA1)⟩,
    ⟨rOS0, k0_pay47 (head0 adj b h u d) (head1 adj b h u d) (head2 adj b h u d) (head3 adj b h u d) (View.ld b rB) (View.ld w rV0) (View.ld a rA0)⟩]

/-- The block of the second layer's destination scores. -/
def stepD (adj : Vec F S1x512x2048 .f32) (b : Vec F S1x64 .f32) (w : Vec F S4x256x64 .f32) (a : Vec F S4x64x1 .f32)
    (h : Vec F S4x2048x64 .f32) (u : Fin 4 → Vec F S1x512x1 .f32) (d : Vec F S4x1x2048 .f32) : Vec F S1x4x1x512 .f32 :=
  View.canon [⟨rOD3, k0_pay8 (k0_pay60 (allHeads adj b h u d) (View.ld w rV3)) (View.ld a rA3)⟩,
    ⟨rOD2, k0_pay58 (k0_pay55 (allHeads adj b h u d) (View.ld w rV2)) (View.ld a rA2)⟩,
    ⟨rOD1, k0_pay53 (allHeads adj b h u d) (View.ld w rV1) (View.ld a rA1)⟩,
    ⟨rOD0, k0_pay48 (head0 adj b h u d) (head1 adj b h u d) (head2 adj b h u d) (head3 adj b h u d) (View.ld b rB) (View.ld w rV0) (View.ld a rA0)⟩]

/-- The one store of the adjacency block covers its buffer. -/
theorem cover_stepAdj (p : Vec F S1x512x2048 .i8) (y : S1x512x2048.Idx) :
    ∃ pc ∈ ([⟨rAdj, p⟩] : List (View.Piece (Elt F) S1x512x2048 .i8)), y ∈ pc.1.set :=
  View.cover_of_tiled [⟨rAdj, p⟩] S1x512x2048.size (by rfl) y
/-- The four stores of the projected rows cover their buffer. -/
theorem cover_stepH (p0 p1 p2 p3 : Vec F S1x1x512x64 .f32) (y : S1x4x512x64.Idx) :
    ∃ pc ∈ ([⟨rOH3, p3⟩, ⟨rOH2, p2⟩, ⟨rOH1, p1⟩, ⟨rOH0, p0⟩] : List (View.Piece (Elt F) S1x4x512x64 .f32)), y ∈ pc.1.set :=
  View.cover_of_tiled [⟨rOH3, p3⟩, ⟨rOH2, p2⟩, ⟨rOH1, p1⟩, ⟨rOH0, p0⟩] S1x1x512x64.size (by rfl) y
/-- The four stores of the source scores cover their buffer. -/
theorem cover_stepS (p0 p1 p2 p3 : Vec F S1x1x512x1 .f32) (y : S1x4x512x1.Idx) :
    ∃ pc ∈ ([⟨rOS3, p3⟩, ⟨rOS2, p2⟩, ⟨rOS1, p1⟩, ⟨rOS0, p0⟩] : List (View.Piece (Elt F) S1x4x512x1 .f32)), y ∈ pc.1.set :=
  View.cover_of_tiled [⟨rOS3, p3⟩, ⟨rOS2, p2⟩, ⟨rOS1, p1⟩, ⟨rOS0, p0⟩] S1x1x512x1.size (by rfl) y
/-- The four stores of the destination scores cover their buffer. -/
theorem cover_stepD (p0 p1 p2 p3 : Vec F S1x1x1x512 .f32) (y : S1x4x1x512.Idx) :
    ∃ pc ∈ ([⟨rOD3, p3⟩, ⟨rOD2, p2⟩, ⟨rOD1, p1⟩, ⟨rOD0, p0⟩] : List (View.Piece (Elt F) S1x4x1x512 .f32)), y ∈ pc.1.set :=
  View.cover_of_tiled [⟨rOD3, p3⟩, ⟨rOD2, p2⟩, ⟨rOD1, p1⟩, ⟨rOD0, p0⟩] S1x1x1x512.size (by rfl) y

end Cert.KernelIdeal.Gat

end
-- ==== Proof.Ideal.StepA.lean ====
module

public import proofs.«01_k».proof.Proof.Ideal.Body0

/-! # The projection step -/

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1200000 in
/-- The projection step: started on its blocks with any contents in what it writes, the body ends with the blocks untouched and every
    buffer it writes at the stated contents. -/
theorem stepA_run (c : Dev nD) (E : Set ℕ) (i : grid0.Coords) (arg2 : Memref sig .tc .vmem S1x2048x128 .f32) (harg2 : arg2.IsWhole) (arg3 : Memref sig .tc .vmem S4x128x64 .f32) (harg3 : arg3.IsWhole) (arg4 : Memref sig .tc .vmem S4x64x1 .f32) (harg4 : arg4.IsWhole) (arg5 : Memref sig .tc .vmem S4x64x1 .f32) (harg5 : arg5.IsWhole) (arg6 : Memref sig .tc .vmem S1x512x2048 .f32) (harg6 : arg6.IsWhole) (arg7 : Memref sig .tc .vmem S1x64 .f32) (harg7 : arg7.IsWhole) (arg8 : Memref sig .tc .vmem S4x256x64 .f32) (harg8 : arg8.IsWhole) (arg9 : Memref sig .tc .vmem S4x64x1 .f32) (harg9 : arg9.IsWhole) (arg10 : Memref sig .tc .vmem S4x64x1 .f32) (harg10 : arg10.IsWhole) (arg11 : Memref sig .tc .vmem S1x512x2048 .i8) (harg11 : arg11.IsWhole) (arg12 : Memref sig .tc .vmem S1x4x512x64 .f32) (harg12 : arg12.IsWhole) (arg13 : Memref sig .tc .vmem S1x4x512x1 .f32) (harg13 : arg13.IsWhole) (arg14 : Memref sig .tc .vmem S1x4x1x512 .f32) (harg14 : arg14.IsWhole) (arg15 : Memref sig .tc .vmem S4x2048x64 .f32) (harg15 : arg15.IsWhole) (arg16 : Memref sig .tc .vmem S4x2048x1 .f32) (harg16 : arg16.IsWhole) (arg17 : Memref sig .tc .vmem S4x1x2048 .f32) (harg17 : arg17.IsWhole) (hc0 : (Scalar.cmpi .ne (Scalar.extui (Scalar.cmpi .eq (BitVec.ofNat 32 (i 1).val) 0#32)) 0#32) = 1#1) (hc1 : ¬k0_cond2 i = 1#1)
    (x0 : Vec F S1x2048x128 .f32) (x1 : Vec F S4x128x64 .f32) (x2 : Vec F S4x64x1 .f32) (x3 : Vec F S4x64x1 .f32) (x4 : Vec F S1x512x2048 .f32) (x5 : Vec F S1x64 .f32) (x6 : Vec F S4x256x64 .f32) (x7 : Vec F S4x64x1 .f32) (x8 : Vec F S4x64x1 .f32) (d9 : Vec F S1x512x2048 .i8) (d10 : Vec F S1x4x512x64 .f32) (d11 : Vec F S1x4x512x1 .f32) (d12 : Vec F S1x4x1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ owns (c : Thread nD τ) arg12 fullShare d10 ∗ owns (c : Thread nD τ) arg13 fullShare d11 ∗ owns (c : Thread nD τ) arg14 fullShare d12 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare (projH x0 x1) ∗ owns (c : Thread nD τ) arg16 fullShare (projS x0 x1 x2) ∗ owns (c : Thread nD τ) arg17 fullShare (projD x0 x1 x3)) -∗ K ⟨⟩))
      ⊢ wp frame (wpE (defs₀ (F := F)) Variants.none c none) E (cc0__layer0_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__layer0_kernel_eq_skeleton]; unfold cc0__layer0_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%e0, %g0, -, HS0⟩, ⟨%e1, %g1, -, HS1⟩, ⟨%e2, %g2, -, HS2⟩, Hk⟩
  subst hf0 hf1 hf2 hf3 hf4 hf5 hf6 hf7 hf8 hf9 hf10 hf11 hf12
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [HS0]
  · iexists _; isplitr
    swap; · iexact HS0
    ipureintro
    exact (View.read_writes_eq_canon _ _ _ (cover_projH _ _ _ _)).trans rfl
  isplitl [HS1]
  · iexists _; isplitr
    swap; · iexact HS1
    ipureintro
    exact (View.read_writes_eq_canon _ _ _ (cover_projS _ _ _ _)).trans rfl
  iexists _; isplitr
  swap; · iexact HS2
  ipureintro
  exact (View.read_writes_eq_canon _ _ _ (cover_projD _ _ _ _)).trans rfl

end Cert.KernelIdeal.Gat

end
-- ==== Proof.Ideal.StepB.lean ====
module

public import proofs.«01_k».proof.Proof.Ideal.StepA

/-! # The attention step -/

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1200000 in
/-- The attention step: started on its blocks with any contents in what it writes, the body ends with the blocks untouched and every
    buffer it writes at the stated contents. -/
theorem stepB_run (c : Dev nD) (E : Set ℕ) (i : grid0.Coords) (arg2 : Memref sig .tc .vmem S1x2048x128 .f32) (harg2 : arg2.IsWhole) (arg3 : Memref sig .tc .vmem S4x128x64 .f32) (harg3 : arg3.IsWhole) (arg4 : Memref sig .tc .vmem S4x64x1 .f32) (harg4 : arg4.IsWhole) (arg5 : Memref sig .tc .vmem S4x64x1 .f32) (harg5 : arg5.IsWhole) (arg6 : Memref sig .tc .vmem S1x512x2048 .f32) (harg6 : arg6.IsWhole) (arg7 : Memref sig .tc .vmem S1x64 .f32) (harg7 : arg7.IsWhole) (arg8 : Memref sig .tc .vmem S4x256x64 .f32) (harg8 : arg8.IsWhole) (arg9 : Memref sig .tc .vmem S4x64x1 .f32) (harg9 : arg9.IsWhole) (arg10 : Memref sig .tc .vmem S4x64x1 .f32) (harg10 : arg10.IsWhole) (arg11 : Memref sig .tc .vmem S1x512x2048 .i8) (harg11 : arg11.IsWhole) (arg12 : Memref sig .tc .vmem S1x4x512x64 .f32) (harg12 : arg12.IsWhole) (arg13 : Memref sig .tc .vmem S1x4x512x1 .f32) (harg13 : arg13.IsWhole) (arg14 : Memref sig .tc .vmem S1x4x1x512 .f32) (harg14 : arg14.IsWhole) (arg15 : Memref sig .tc .vmem S4x2048x64 .f32) (harg15 : arg15.IsWhole) (arg16 : Memref sig .tc .vmem S4x2048x1 .f32) (harg16 : arg16.IsWhole) (arg17 : Memref sig .tc .vmem S4x1x2048 .f32) (harg17 : arg17.IsWhole) (hc0 : ¬(Scalar.cmpi .ne (Scalar.extui (Scalar.cmpi .eq (BitVec.ofNat 32 (i 1).val) 0#32)) 0#32) = 1#1) (hc1 : k0_cond2 i = 1#1)
    (x0 : Vec F S1x2048x128 .f32) (x1 : Vec F S4x128x64 .f32) (x2 : Vec F S4x64x1 .f32) (x3 : Vec F S4x64x1 .f32) (x4 : Vec F S1x512x2048 .f32) (x5 : Vec F S1x64 .f32) (x6 : Vec F S4x256x64 .f32) (x7 : Vec F S4x64x1 .f32) (x8 : Vec F S4x64x1 .f32) (y0 : Vec F S4x2048x64 .f32) (y1 : Vec F S4x2048x1 .f32) (y2 : Vec F S4x1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare y0 ∗ owns (c : Thread nD τ) arg16 fullShare y1 ∗ owns (c : Thread nD τ) arg17 fullShare y2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (stepAdj x4) ∗ owns (c : Thread nD τ) arg12 fullShare (stepH x4 x5 x6 y0 (rowsOf i y1) y2) ∗ owns (c : Thread nD τ) arg13 fullShare (stepS x4 x5 x6 x7 y0 (rowsOf i y1) y2) ∗ owns (c : Thread nD τ) arg14 fullShare (stepD x4 x5 x6 x8 y0 (rowsOf i y1) y2) ∗ owns (c : Thread nD τ) arg15 fullShare y0 ∗ owns (c : Thread nD τ) arg16 fullShare y1 ∗ owns (c : Thread nD τ) arg17 fullShare y2) -∗ K ⟨⟩))
      ⊢ wp frame (wpE (defs₀ (F := F)) Variants.none c none) E (cc0__layer0_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__layer0_kernel_eq_skeleton]; unfold cc0__layer0_kernel_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%e9, %f9, -, H9⟩, ⟨%e10, %f10, -, H10⟩, ⟨%e11, %f11, -, H11⟩, ⟨%e12, %f12, -, H12⟩, ⟨%g0, %hg0, HS0⟩, ⟨%g1, %hg1, HS1⟩, ⟨%g2, %hg2, HS2⟩, Hk⟩
  subst hf0 hf1 hf2 hf3 hf4 hf5 hf6 hf7 hf8 hg0 hg1 hg2
  rw [show rowsOf i (arg16.view.read (Elt F) g1) = _ from dif_pos hc1]
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (View.read_writes_eq_canon _ _ _ (cover_stepAdj _)).trans rfl
  isplitl [H10]
  · iexists _; isplitr
    swap; · iexact H10
    ipureintro
    exact (View.read_writes_eq_canon _ _ _ (cover_stepH _ _ _ _)).trans rfl
  isplitl [H11]
  · iexists _; isplitr
    swap; · iexact H11
    ipureintro
    exact (View.read_writes_eq_canon _ _ _ (cover_stepS _ _ _ _)).trans rfl
  isplitl [H12]
  · iexists _; isplitr
    swap; · iexact H12
    ipureintro
    exact (View.read_writes_eq_canon _ _ _ (cover_stepD _ _ _ _)).trans rfl
  isplitl [HS0]
  · iexists g0; isplitr; · ipureintro; rfl
    iexact HS0
  isplitl [HS1]
  · iexists g1; isplitr; · ipureintro; rfl
    iexact HS1
  iexists g2; isplitr; · ipureintro; rfl
  iexact HS2

end Cert.KernelIdeal.Gat

end
-- ==== Proof.Ideal.Region0.lean ====
module

public import proofs.«01_k».proof.Proof.Ideal.StepB

/-! # The first call, point by point

The invariant between points, what every buffer holds at every point, and the body there. -/

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The blocks a step is given -/

/-- Window `w`'s block at point `t` of the first call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried buffers, as memrefs. -/
abbrev scH : Memref sig .tc .vmem S4x2048x64 .f32 := Memref.whole cc0_scratch0
abbrev scS : Memref sig .tc .vmem S4x2048x1 .f32 := Memref.whole cc0_scratch1
abbrev scD : Memref sig .tc .vmem S4x1x2048 .f32 := Memref.whole cc0_scratch2

/-- The projected rows a step finds: those of its own batch's projection step. -/
def curH (c : Dev nD) (t : Fin cfg0.N) : Vec F S4x2048x64 .f32 := projH (iblk0 V c 0 t) (iblk0 V c 1 t)
/-- The source scores a step finds. -/
def curS (c : Dev nD) (t : Fin cfg0.N) : Vec F S4x2048x1 .f32 := projS (iblk0 V c 0 t) (iblk0 V c 1 t) (iblk0 V c 2 t)
/-- The destination scores a step finds. -/
def curD (c : Dev nD) (t : Fin cfg0.N) : Vec F S4x1x2048 .f32 := projD (iblk0 V c 0 t) (iblk0 V c 1 t) (iblk0 V c 3 t)

/-! ## The carried buffers between steps -/

/-- The scoped buffers the first call does not use: the second call's staging buffers, at anything. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the first call is handed beside its windows: the carried buffers and the unused scoped buffers at anything, and
    the generator register. -/
theorem handed0_eq (c : Dev nD) :
    (Pipeline.ΦA spec0 c : sProp 𝕄)
      = iprop(((∃ d, owns (c : Thread nD τ) scH fullShare d) ∗ (∃ d, owns (c : Thread nD τ) scS fullShare d)
          ∗ (∃ d, owns (c : Thread nD τ) scD fullShare d) ∗ restScoped (F := F) c) ∗ (∃ r, prngReg c r)) := by
  unfold Pipeline.ΦA restScoped; rw [scopedRest0_eq]; simp only [scH, scS, scD, owns_whole]; rfl

/-- The carried buffers holding the projections of point `t`'s batch. -/
def carried (c : Dev nD) (t : Fin cfg0.N) : sProp 𝕄 :=
  iprop((owns (c : Thread nD τ) scH fullShare (curH V c t) ∗ owns (c : Thread nD τ) scS fullShare (curS V c t)
    ∗ owns (c : Thread nD τ) scD fullShare (curD V c t) ∗ restScoped (F := F) c) ∗ (∃ r, prngReg c r))

/-- The invariant before position `n`: at the start what the call is handed, afterwards the carried buffers holding the
    projections of the batch of the point before. -/
def inv0 (c : Dev nD) : (n : ℕ) → n ≤ cfg0.N → sProp 𝕄
  | 0, _ => Pipeline.ΦA spec0 c
  | n + 1, hn => carried V c ⟨n, hn⟩

/-- Before the first step the scratch buffers hold anything. -/
theorem inv0_zero (c : Dev nD) (n : ℕ) (h : n ≤ cfg0.N) (hz : n = 0) : inv0 V c n h = Pipeline.ΦA spec0 c := by
  subst hz; rfl
/-- After a step the scratch buffers hold the current batch element's projections. -/
theorem inv0_pos (c : Dev nD) (n : ℕ) (h : n ≤ cfg0.N) (hz : n ≠ 0) :
    inv0 V c n h = carried V c ⟨n - 1, by omega⟩ := by
  cases n with
  | zero => exact absurd rfl hz
  | succ n => rfl

/-- Holding the projections, the carried buffers hold something. -/
theorem carried_forget (c : Dev nD) (t : Fin cfg0.N) : carried V c t ⊢ Pipeline.ΦA spec0 c := by
  rw [handed0_eq]; unfold carried
  iintro ⟨⟨H0, H1, H2, Hr⟩, Hg⟩
  isplitl [H0 H1 H2 Hr]
  · isplitl [H0]; · iexists _; iexact H0
    isplitl [H1]; · iexists _; iexact H1
    isplitl [H2]; · iexists _; iexact H2
    iexact Hr
  iexact Hg

/-- At any position the invariant gives back what the call was handed. -/
theorem inv0_forget (c : Dev nD) (n : ℕ) (h : n ≤ cfg0.N) : inv0 V c n h ⊢ Pipeline.ΦA spec0 c := by
  cases n with
  | zero => exact .rfl
  | succ n => exact carried_forget V c ⟨n, h⟩

/-! ## The call's proof data -/

/-- After the body at point `t` each input's buffer is at its block, each result's at the attention step's block (a
    projection step leaves them alone and nothing is written back there). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => stepAdj (iblk0 V c 4 t)
    | ⟨10, _⟩ => stepH (iblk0 V c 4 t) (iblk0 V c 5 t) (iblk0 V c 6 t) (curH V c t) (rowsOf (grid0.coords t) (curS V c t)) (curD V c t)
    | ⟨11, _⟩ => stepS (iblk0 V c 4 t) (iblk0 V c 5 t) (iblk0 V c 6 t) (iblk0 V c 7 t) (curH V c t) (rowsOf (grid0.coords t) (curS V c t)) (curD V c t)
    | ⟨12, _⟩ => stepD (iblk0 V c 4 t) (iblk0 V c 5 t) (iblk0 V c 6 t) (iblk0 V c 8 t) (curH V c t) (rowsOf (grid0.coords t) (curS V c t)) (curD V c t)
  Φ t := inv0 V c t.val (Nat.le_of_lt_succ t.isLt)
  q _ := fullShare
  owed _ := 0

/-- At any position the invariant gives back what the call was handed. -/
theorem Phi0_forget (c : Dev nD) (t : Fin (cfg0.N + 1)) : (dat0 V c).Φ t ⊢ Pipeline.ΦA spec0 c := by
  dsimp only [dat0]; exact inv0_forget V c _ _

/-- The first call's arrays at its entry. -/
theorem A_eq0 (c : Dev nD) (w : Fin cfg0.W) : (dat0 V c).A w = V c (Pipeline.arrRef spec0 w) := by dsimp only [dat0]
/-- What a step of the first call leaves in the window of the features. -/
theorem after0_0 (c : Dev nD) (t : Fin cfg0.N) : (dat0 V c).after 0 t = iblk0 V c 0 t := by dsimp only [dat0]
/-- What a step of the first call leaves in the window of the first layer's projection weights. -/
theorem after0_1 (c : Dev nD) (t : Fin cfg0.N) : (dat0 V c).after 1 t = iblk0 V c 1 t := by dsimp only [dat0]
/-- What a step of the first call leaves in the window of the first layer's source vectors. -/
theorem after0_2 (c : Dev nD) (t : Fin cfg0.N) : (dat0 V c).after 2 t = iblk0 V c 2 t := by dsimp only [dat0]
/-- What a step of the first call leaves in the window of the first layer's destination vectors. -/
theorem after0_3 (c : Dev nD) (t : Fin cfg0.N) : (dat0 V c).after 3 t = iblk0 V c 3 t := by dsimp only [dat0]
/-- What a step of the first call leaves in the window of the adjacency. -/
theorem after0_4 (c : Dev nD) (t : Fin cfg0.N) : (dat0 V c).after 4 t = iblk0 V c 4 t := by dsimp only [dat0]
/-- What a step of the first call leaves in the window of the bias. -/
theorem after0_5 (c : Dev nD) (t : Fin cfg0.N) : (dat0 V c).after 5 t = iblk0 V c 5 t := by dsimp only [dat0]
/-- What a step of the first call leaves in the window of the second layer's projection weights. -/
theorem after0_6 (c : Dev nD) (t : Fin cfg0.N) : (dat0 V c).after 6 t = iblk0 V c 6 t := by dsimp only [dat0]
/-- What a step of the first call leaves in the window of the second layer's source vectors. -/
theorem after0_7 (c : Dev nD) (t : Fin cfg0.N) : (dat0 V c).after 7 t = iblk0 V c 7 t := by dsimp only [dat0]
/-- What a step of the first call leaves in the window of the second layer's destination vectors. -/
theorem after0_8 (c : Dev nD) (t : Fin cfg0.N) : (dat0 V c).after 8 t = iblk0 V c 8 t := by dsimp only [dat0]
/-- What a step of the first call leaves in the window of the adjacency as int8. -/
theorem after0_9 (c : Dev nD) (t : Fin cfg0.N) : (dat0 V c).after 9 t = stepAdj (iblk0 V c 4 t) := by dsimp only [dat0]
/-- What a step of the first call leaves in the window of the second layer's projected rows. -/
theorem after0_10 (c : Dev nD) (t : Fin cfg0.N) : (dat0 V c).after 10 t = stepH (iblk0 V c 4 t) (iblk0 V c 5 t) (iblk0 V c 6 t) (curH V c t) (rowsOf (grid0.coords t) (curS V c t)) (curD V c t) := by dsimp only [dat0]
/-- What a step of the first call leaves in the window of the second layer's source scores. -/
theorem after0_11 (c : Dev nD) (t : Fin cfg0.N) : (dat0 V c).after 11 t = stepS (iblk0 V c 4 t) (iblk0 V c 5 t) (iblk0 V c 6 t) (iblk0 V c 7 t) (curH V c t) (rowsOf (grid0.coords t) (curS V c t)) (curD V c t) := by dsimp only [dat0]
/-- What a step of the first call leaves in the window of the second layer's destination scores. -/
theorem after0_12 (c : Dev nD) (t : Fin cfg0.N) : (dat0 V c).after 12 t = stepD (iblk0 V c 4 t) (iblk0 V c 5 t) (iblk0 V c 6 t) (iblk0 V c 8 t) (curH V c t) (rowsOf (grid0.coords t) (curS V c t)) (curD V c t) := by dsimp only [dat0]

/-! Each input's buffer holds its block at every point, fetched there or not. -/
/-- What a step of the first call finds in the window of the features. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- What a step of the first call finds in the window of the first layer's projection weights. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- What a step of the first call finds in the window of the first layer's source vectors. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- What a step of the first call finds in the window of the first layer's destination vectors. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- What a step of the first call finds in the window of the adjacency. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- What a step of the first call finds in the window of the bias. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- What a step of the first call finds in the window of the second layer's projection weights. -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
/-- What a step of the first call finds in the window of the second layer's source vectors. -/
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
/-- What a step of the first call finds in the window of the second layer's destination vectors. -/
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)

/-! ## The projections do not change within a batch -/

/-- Away from a batch's first point, window 0's block is the point before's. -/
theorem iblk0_0_prev (c : Dev nD) (t : Fin cfg0.N) (ht : t.val % 5 ≠ 0) (h : t.val - 1 < cfg0.N) :
    (iblk0 V c 0 ⟨t.val - 1, h⟩ : Vec F S1x2048x128 .f32) = iblk0 V c 0 t := by
  have hf : (cfg0.win 0).fetch t = false := by
    rw [← Bool.not_eq_true, fetch0_0 t]; omega
  obtain ⟨h0, hix⟩ := (cfg0.win 0).index_eq_of_fetch rfl t hf
  have e := (dat0 V c).fetched_congr 0 hix rfl (iblk0 V c 0 t)
  have e1 : ∀ s : Fin cfg0.N, (dat0 V c).fetched 0 s (iblk0 V c 0 t) = iblk0 V c 0 s := fun s => by
    unfold Dat.fetched Dat.blockOf iblk0; rw [A_eq0]; try rfl
  rw [e1, e1] at e
  first | exact e | exact e.symm

/-- Away from a batch's first point, window 1's block is the point before's. -/
theorem iblk0_1_prev (c : Dev nD) (t : Fin cfg0.N) (ht : t.val % 5 ≠ 0) (h : t.val - 1 < cfg0.N) :
    (iblk0 V c 1 ⟨t.val - 1, h⟩ : Vec F S4x128x64 .f32) = iblk0 V c 1 t := by
  have hf : (cfg0.win 1).fetch t = false := by
    rw [← Bool.not_eq_true, fetch0_1 t]; omega
  obtain ⟨h0, hix⟩ := (cfg0.win 1).index_eq_of_fetch rfl t hf
  have e := (dat0 V c).fetched_congr 1 hix rfl (iblk0 V c 1 t)
  have e1 : ∀ s : Fin cfg0.N, (dat0 V c).fetched 1 s (iblk0 V c 1 t) = iblk0 V c 1 s := fun s => by
    unfold Dat.fetched Dat.blockOf iblk0; rw [A_eq0]; try rfl
  rw [e1, e1] at e
  first | exact e | exact e.symm

/-- Away from a batch's first point, window 2's block is the point before's. -/
theorem iblk0_2_prev (c : Dev nD) (t : Fin cfg0.N) (ht : t.val % 5 ≠ 0) (h : t.val - 1 < cfg0.N) :
    (iblk0 V c 2 ⟨t.val - 1, h⟩ : Vec F S4x64x1 .f32) = iblk0 V c 2 t := by
  have hf : (cfg0.win 2).fetch t = false := by
    rw [← Bool.not_eq_true, fetch0_2 t]; omega
  obtain ⟨h0, hix⟩ := (cfg0.win 2).index_eq_of_fetch rfl t hf
  have e := (dat0 V c).fetched_congr 2 hix rfl (iblk0 V c 2 t)
  have e1 : ∀ s : Fin cfg0.N, (dat0 V c).fetched 2 s (iblk0 V c 2 t) = iblk0 V c 2 s := fun s => by
    unfold Dat.fetched Dat.blockOf iblk0; rw [A_eq0]; try rfl
  rw [e1, e1] at e
  first | exact e | exact e.symm

/-- Away from a batch's first point, window 3's block is the point before's. -/
theorem iblk0_3_prev (c : Dev nD) (t : Fin cfg0.N) (ht : t.val % 5 ≠ 0) (h : t.val - 1 < cfg0.N) :
    (iblk0 V c 3 ⟨t.val - 1, h⟩ : Vec F S4x64x1 .f32) = iblk0 V c 3 t := by
  have hf : (cfg0.win 3).fetch t = false := by
    rw [← Bool.not_eq_true, fetch0_3 t]; omega
  obtain ⟨h0, hix⟩ := (cfg0.win 3).index_eq_of_fetch rfl t hf
  have e := (dat0 V c).fetched_congr 3 hix rfl (iblk0 V c 3 t)
  have e1 : ∀ s : Fin cfg0.N, (dat0 V c).fetched 3 s (iblk0 V c 3 t) = iblk0 V c 3 s := fun s => by
    unfold Dat.fetched Dat.blockOf iblk0; rw [A_eq0]; try rfl
  rw [e1, e1] at e
  first | exact e | exact e.symm

/-- Away from a batch's first point the carried buffers are as the point needs them. -/
theorem carried_prev (c : Dev nD) (t : Fin cfg0.N) (ht : t.val % 5 ≠ 0) (h : t.val - 1 < cfg0.N) :
    carried V c ⟨t.val - 1, h⟩ = carried V c t := by
  unfold carried curH curS curD
  rw [iblk0_0_prev V c t ht h, iblk0_1_prev V c t ht h, iblk0_2_prev V c t ht h, iblk0_3_prev V c t ht h]

/-! ## Which step a point runs -/

/-- A point runs the projection step exactly when it is its batch's first. -/
theorem proj_iff : ∀ t : Fin cfg0.N,
    (Scalar.cmpi .ne (Scalar.extui (Scalar.cmpi .eq (BitVec.ofNat 32 (grid0.coords t 1).val) 0#32)) 0#32) = 1#1 ↔ t.val % 5 = 0 := by
  decide +kernel
/-- A point runs the attention step exactly when it is not its batch's first. -/
theorem attn_iff : ∀ t : Fin cfg0.N, k0_cond2 (grid0.coords t) = 1#1 ↔ t.val % 5 ≠ 0 := by decide +kernel
/-- A projection step leaves the window of the adjacency as int8 alone. -/
theorem idle0_9 : ∀ t : Fin cfg0.N, t.val % 5 = 0 → cfg0.idle 9 (grid0.coords t) = true := by decide +kernel
/-- A projection step does not send the window of the adjacency as int8 back. -/
theorem noFlush0_9 : ∀ t : Fin cfg0.N, t.val % 5 = 0 → (cfg0.win 9).flush t = false := by decide +kernel
/-- An attention step writes the window of the adjacency as int8. -/
theorem live0_9 : ∀ t : Fin cfg0.N, t.val % 5 ≠ 0 → cfg0.idle 9 (grid0.coords t) = false := by decide +kernel
/-- A projection step leaves the window of the second layer's projected rows alone. -/
theorem idle0_10 : ∀ t : Fin cfg0.N, t.val % 5 = 0 → cfg0.idle 10 (grid0.coords t) = true := by decide +kernel
/-- A projection step does not send the window of the second layer's projected rows back. -/
theorem noFlush0_10 : ∀ t : Fin cfg0.N, t.val % 5 = 0 → (cfg0.win 10).flush t = false := by decide +kernel
/-- An attention step writes the window of the second layer's projected rows. -/
theorem live0_10 : ∀ t : Fin cfg0.N, t.val % 5 ≠ 0 → cfg0.idle 10 (grid0.coords t) = false := by decide +kernel
/-- A projection step leaves the window of the second layer's source scores alone. -/
theorem idle0_11 : ∀ t : Fin cfg0.N, t.val % 5 = 0 → cfg0.idle 11 (grid0.coords t) = true := by decide +kernel
/-- A projection step does not send the window of the second layer's source scores back. -/
theorem noFlush0_11 : ∀ t : Fin cfg0.N, t.val % 5 = 0 → (cfg0.win 11).flush t = false := by decide +kernel
/-- An attention step writes the window of the second layer's source scores. -/
theorem live0_11 : ∀ t : Fin cfg0.N, t.val % 5 ≠ 0 → cfg0.idle 11 (grid0.coords t) = false := by decide +kernel
/-- A projection step leaves the window of the second layer's destination scores alone. -/
theorem idle0_12 : ∀ t : Fin cfg0.N, t.val % 5 = 0 → cfg0.idle 12 (grid0.coords t) = true := by decide +kernel
/-- A projection step does not send the window of the second layer's destination scores back. -/
theorem noFlush0_12 : ∀ t : Fin cfg0.N, t.val % 5 = 0 → (cfg0.win 12).flush t = false := by decide +kernel
/-- An attention step writes the window of the second layer's destination scores. -/
theorem live0_12 : ∀ t : Fin cfg0.N, t.val % 5 ≠ 0 → cfg0.idle 12 (grid0.coords t) = false := by decide +kernel

/-! ## The body at a point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))
/-- What the body returns at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)
/-- What is owned of the window of the features after a step of the first call. -/
theorem leaves0_0 (c : Dev nD) (t : Fin cfg0.N) : (dat0 V c).leavesExact 0 t = owns (c : Thread nD τ) (st0_0 t) fullShare (iblk0 V c 0 t) := by
  unfold Dat.leavesExact; rw [show cfg0.idle 0 (grid0.coords t) = false from rfl, after0_0]
/-- What is owned of the window of the first layer's projection weights after a step of the first call. -/
theorem leaves0_1 (c : Dev nD) (t : Fin cfg0.N) : (dat0 V c).leavesExact 1 t = owns (c : Thread nD τ) (st0_1 t) fullShare (iblk0 V c 1 t) := by
  unfold Dat.leavesExact; rw [show cfg0.idle 1 (grid0.coords t) = false from rfl, after0_1]
/-- What is owned of the window of the first layer's source vectors after a step of the first call. -/
theorem leaves0_2 (c : Dev nD) (t : Fin cfg0.N) : (dat0 V c).leavesExact 2 t = owns (c : Thread nD τ) (st0_2 t) fullShare (iblk0 V c 2 t) := by
  unfold Dat.leavesExact; rw [show cfg0.idle 2 (grid0.coords t) = false from rfl, after0_2]
/-- What is owned of the window of the first layer's destination vectors after a step of the first call. -/
theorem leaves0_3 (c : Dev nD) (t : Fin cfg0.N) : (dat0 V c).leavesExact 3 t = owns (c : Thread nD τ) (st0_3 t) fullShare (iblk0 V c 3 t) := by
  unfold Dat.leavesExact; rw [show cfg0.idle 3 (grid0.coords t) = false from rfl, after0_3]
/-- What is owned of the window of the adjacency after a step of the first call. -/
theorem leaves0_4 (c : Dev nD) (t : Fin cfg0.N) : (dat0 V c).leavesExact 4 t = owns (c : Thread nD τ) (st0_4 t) fullShare (iblk0 V c 4 t) := by
  unfold Dat.leavesExact; rw [show cfg0.idle 4 (grid0.coords t) = false from rfl, after0_4]
/-- What is owned of the window of the bias after a step of the first call. -/
theorem leaves0_5 (c : Dev nD) (t : Fin cfg0.N) : (dat0 V c).leavesExact 5 t = owns (c : Thread nD τ) (st0_5 t) fullShare (iblk0 V c 5 t) := by
  unfold Dat.leavesExact; rw [show cfg0.idle 5 (grid0.coords t) = false from rfl, after0_5]
/-- What is owned of the window of the second layer's projection weights after a step of the first call. -/
theorem leaves0_6 (c : Dev nD) (t : Fin cfg0.N) : (dat0 V c).leavesExact 6 t = owns (c : Thread nD τ) (st0_6 t) fullShare (iblk0 V c 6 t) := by
  unfold Dat.leavesExact; rw [show cfg0.idle 6 (grid0.coords t) = false from rfl, after0_6]
/-- What is owned of the window of the second layer's source vectors after a step of the first call. -/
theorem leaves0_7 (c : Dev nD) (t : Fin cfg0.N) : (dat0 V c).leavesExact 7 t = owns (c : Thread nD τ) (st0_7 t) fullShare (iblk0 V c 7 t) := by
  unfold Dat.leavesExact; rw [show cfg0.idle 7 (grid0.coords t) = false from rfl, after0_7]
/-- What is owned of the window of the second layer's destination vectors after a step of the first call. -/
theorem leaves0_8 (c : Dev nD) (t : Fin cfg0.N) : (dat0 V c).leavesExact 8 t = owns (c : Thread nD τ) (st0_8 t) fullShare (iblk0 V c 8 t) := by
  unfold Dat.leavesExact; rw [show cfg0.idle 8 (grid0.coords t) = false from rfl, after0_8]
/-- What is owned of the window of the adjacency as int8 after a step of the first call. -/
theorem leaves0_9 (c : Dev nD) (t : Fin cfg0.N) (h : t.val % 5 ≠ 0) : (dat0 V c).leavesExact 9 t = owns (c : Thread nD τ) (st0_9 t) fullShare (stepAdj (iblk0 V c 4 t)) := by
  unfold Dat.leavesExact; rw [live0_9 t h, after0_9]
/-- What is owned of the window of the second layer's projected rows after a step of the first call. -/
theorem leaves0_10 (c : Dev nD) (t : Fin cfg0.N) (h : t.val % 5 ≠ 0) : (dat0 V c).leavesExact 10 t = owns (c : Thread nD τ) (st0_10 t) fullShare (stepH (iblk0 V c 4 t) (iblk0 V c 5 t) (iblk0 V c 6 t) (curH V c t) (rowsOf (grid0.coords t) (curS V c t)) (curD V c t)) := by
  unfold Dat.leavesExact; rw [live0_10 t h, after0_10]
/-- What is owned of the window of the second layer's source scores after a step of the first call. -/
theorem leaves0_11 (c : Dev nD) (t : Fin cfg0.N) (h : t.val % 5 ≠ 0) : (dat0 V c).leavesExact 11 t = owns (c : Thread nD τ) (st0_11 t) fullShare (stepS (iblk0 V c 4 t) (iblk0 V c 5 t) (iblk0 V c 6 t) (iblk0 V c 7 t) (curH V c t) (rowsOf (grid0.coords t) (curS V c t)) (curD V c t)) := by
  unfold Dat.leavesExact; rw [live0_11 t h, after0_11]
/-- What is owned of the window of the second layer's destination scores after a step of the first call. -/
theorem leaves0_12 (c : Dev nD) (t : Fin cfg0.N) (h : t.val % 5 ≠ 0) : (dat0 V c).leavesExact 12 t = owns (c : Thread nD τ) (st0_12 t) fullShare (stepD (iblk0 V c 4 t) (iblk0 V c 5 t) (iblk0 V c 6 t) (iblk0 V c 8 t) (curH V c t) (rowsOf (grid0.coords t) (curS V c t)) (curD V c t)) := by
  unfold Dat.leavesExact; rw [live0_12 t h, after0_12]

set_option maxHeartbeats 3200000 in
/-- The body at a batch's first point: from anything in the carried buffers it leaves the projections there. -/
theorem body0_proj (c : Dev nD) (t : Fin cfg0.N) (h0 : t.val % 5 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8,
    leaves0_0, leaves0_1, leaves0_2, leaves0_3, leaves0_4, leaves0_5, leaves0_6, leaves0_7, leaves0_8]
  rw [show (dat0 V c).owesAt () t.succ = (dat0 V c).owesAt () t.castSucc from rfl,
    show (dat0 V c).Φ t.succ = carried V c t from rfl,
    Dat.leavesExact_idle (dat0 V c) 9 t (idle0_9 t h0) (noFlush0_9 t h0),
    Dat.leavesExact_idle (dat0 V c) 10 t (idle0_10 t h0) (noFlush0_10 t h0),
    Dat.leavesExact_idle (dat0 V c) 11 t (idle0_11 t h0) (noFlush0_11 t h0),
    Dat.leavesExact_idle (dat0 V c) 12 t (idle0_12 t h0) (noFlush0_12 t h0)]
  have hΦ : (dat0 V c).Φ t.castSucc ⊢ Pipeline.ΦA spec0 c := inv0_forget V c t.val (Nat.le_of_lt t.isLt)
  rw [handed0_eq] at hΦ
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HΦ' := hΦ $$ HΦ
  icases HΦ' with ⟨⟨HS0, HS1, HS2, Hr⟩, Hg⟩
  iapply (stepA_run c Set.univ (grid0.coords t) _ _ _ _ _ _ _ _ _ _ _ _ _ _ _ _ _ _ _ _ _ _ _ _ _ _ _ _ _ _ _ _ ((proj_iff t).mpr h0) (fun h => (attn_iff t).mp h h0) (iblk0 V c 0 t) (iblk0 V c 1 t) (iblk0 V c 2 t) (iblk0 V c 3 t) (iblk0 V c 4 t) (iblk0 V c 5 t) (iblk0 V c 6 t) (iblk0 V c 7 t) (iblk0 V c 8 t) _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hr Hg]
  · unfold carried curH curS curD
    isplitl [HS0 HS1 HS2 Hr]
    · isplitl [HS0]; · iexact HS0
      isplitl [HS1]; · iexact HS1
      isplitl [HS2]; · iexact HS2
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

set_option maxHeartbeats 3200000 in
/-- The body at any other point: over the batch's projections it leaves the attention step's blocks in the results. -/
theorem body0_attn (c : Dev nD) (t : Fin cfg0.N) (h0 : t.val % 5 ≠ 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8,
    leaves0_0, leaves0_1, leaves0_2, leaves0_3, leaves0_4, leaves0_5, leaves0_6, leaves0_7, leaves0_8,
    leaves0_9 V c t h0, leaves0_10 V c t h0, leaves0_11 V c t h0, leaves0_12 V c t h0]
  rw [show (dat0 V c).owesAt () t.succ = (dat0 V c).owesAt () t.castSucc from rfl,
    show (dat0 V c).Φ t.succ = carried V c t from rfl]
  have hΦ : (dat0 V c).Φ t.castSucc = carried V c t :=
    (inv0_pos V c t.val (Nat.le_of_lt t.isLt) (fun e => h0 (by rw [e]))).trans (carried_prev V c t h0 _)
  rw [hΦ]; unfold carried
  iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (stepB_run c Set.univ (grid0.coords t) _ _ _ _ _ _ _ _ _ _ _ _ _ _ _ _ _ _ _ _ _ _ _ _ _ _ _ _ _ _ _ _ (fun h => h0 ((proj_iff t).mp h)) ((attn_iff t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (curH V c t) (curS V c t) (curD V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hr Hg]
  · isplitl [HS0 HS1 HS2 Hr]
    · isplitl [HS0]; · iexact HS0
      isplitl [HS1]; · iexact HS1
      isplitl [HS2]; · iexact HS2
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The first call's body obligation, at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (?_ : bodyPre0 V c t ⊢ wp frame _ _ (bodyAt0 t) (fun _ => bodyPost0 V c t)) rfl .rfl fun _ => .rfl
  by_cases h : t.val % 5 = 0
  · exact body0_proj V c t h
  · exact body0_attn V c t h

end Cert.KernelIdeal.Gat

end
-- ==== Proof.Ideal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! # The second call

What its kernel leaves in the two result blocks, and the body at every point. -/

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the second kernel reads and writes -/

/-- The whole adjacency block. -/
abbrev qAdj : Rect S1x256x2048 := Rect.unit (s := S1x256x2048) ![0, 0, 0] S1x256x2048.size inb_S1x256x2048_S1x256x2048_0_0_0
/-- The whole bias row. -/
abbrev qB : Rect S1x64 := Rect.unit (s := S1x64) ![0, 0] S1x64.size inb_S1x64_S1x64_0_0
/-! Head 0: its source scores, destination scores, features, weights and its columns of the result. -/
abbrev qS0 : Rect S1x4x256x1 := Rect.unit (s := S1x4x256x1) ![0, 0, 0, 0] S1x1x256x1.size inb_S1x4x256x1_S1x1x256x1_0_0_0_0
abbrev qD0 : Rect S1x4x1x2048 := Rect.unit (s := S1x4x1x2048) ![0, 0, 0, 0] S1x1x1x2048.size inb_S1x4x1x2048_S1x1x1x2048_0_0_0_0
abbrev qH0 : Rect S1x4x2048x64 := Rect.unit (s := S1x4x2048x64) ![0, 0, 0, 0] S1x1x2048x64.size inb_S1x4x2048x64_S1x1x2048x64_0_0_0_0
abbrev qW0 : Rect S1x4x256x2048 := Rect.unit (s := S1x4x256x2048) ![0, 0, 0, 0] S1x1x256x2048.size inb_S1x4x256x2048_S1x1x256x2048_0_0_0_0
abbrev qO0 : Rect S1x256x256 := Rect.unit (s := S1x256x256) ![0, 0, 0] S1x256x64.size inb_S1x256x256_S1x256x64_0_0_0
/-! Head 1: its source scores, destination scores, features, weights and its columns of the result. -/
abbrev qS1 : Rect S1x4x256x1 := Rect.unit (s := S1x4x256x1) ![0, 1, 0, 0] S1x1x256x1.size inb_S1x4x256x1_S1x1x256x1_0_1_0_0
abbrev qD1 : Rect S1x4x1x2048 := Rect.unit (s := S1x4x1x2048) ![0, 1, 0, 0] S1x1x1x2048.size inb_S1x4x1x2048_S1x1x1x2048_0_1_0_0
abbrev qH1 : Rect S1x4x2048x64 := Rect.unit (s := S1x4x2048x64) ![0, 1, 0, 0] S1x1x2048x64.size inb_S1x4x2048x64_S1x1x2048x64_0_1_0_0
abbrev qW1 : Rect S1x4x256x2048 := Rect.unit (s := S1x4x256x2048) ![0, 1, 0, 0] S1x1x256x2048.size inb_S1x4x256x2048_S1x1x256x2048_0_1_0_0
abbrev qO1 : Rect S1x256x256 := Rect.unit (s := S1x256x256) ![0, 0, 64] S1x256x64.size inb_S1x256x256_S1x256x64_0_0_64
/-! Head 2: its source scores, destination scores, features, weights and its columns of the result. -/
abbrev qS2 : Rect S1x4x256x1 := Rect.unit (s := S1x4x256x1) ![0, 2, 0, 0] S1x1x256x1.size inb_S1x4x256x1_S1x1x256x1_0_2_0_0
abbrev qD2 : Rect S1x4x1x2048 := Rect.unit (s := S1x4x1x2048) ![0, 2, 0, 0] S1x1x1x2048.size inb_S1x4x1x2048_S1x1x1x2048_0_2_0_0
abbrev qH2 : Rect S1x4x2048x64 := Rect.unit (s := S1x4x2048x64) ![0, 2, 0, 0] S1x1x2048x64.size inb_S1x4x2048x64_S1x1x2048x64_0_2_0_0
abbrev qW2 : Rect S1x4x256x2048 := Rect.unit (s := S1x4x256x2048) ![0, 2, 0, 0] S1x1x256x2048.size inb_S1x4x256x2048_S1x1x256x2048_0_2_0_0
abbrev qO2 : Rect S1x256x256 := Rect.unit (s := S1x256x256) ![0, 0, 128] S1x256x64.size inb_S1x256x256_S1x256x64_0_0_128
/-! Head 3: its source scores, destination scores, features, weights and its columns of the result. -/
abbrev qS3 : Rect S1x4x256x1 := Rect.unit (s := S1x4x256x1) ![0, 3, 0, 0] S1x1x256x1.size inb_S1x4x256x1_S1x1x256x1_0_3_0_0
abbrev qD3 : Rect S1x4x1x2048 := Rect.unit (s := S1x4x1x2048) ![0, 3, 0, 0] S1x1x1x2048.size inb_S1x4x1x2048_S1x1x1x2048_0_3_0_0
abbrev qH3 : Rect S1x4x2048x64 := Rect.unit (s := S1x4x2048x64) ![0, 3, 0, 0] S1x1x2048x64.size inb_S1x4x2048x64_S1x1x2048x64_0_3_0_0
abbrev qW3 : Rect S1x4x256x2048 := Rect.unit (s := S1x4x256x2048) ![0, 3, 0, 0] S1x1x256x2048.size inb_S1x4x256x2048_S1x1x256x2048_0_3_0_0
abbrev qO3 : Rect S1x256x256 := Rect.unit (s := S1x256x256) ![0, 0, 192] S1x256x64.size inb_S1x256x256_S1x256x64_0_0_192

/-! ## What the second kernel leaves in its two result blocks -/

/-- Which pairs of the block are edges. -/
def edges1 (adj : Vec F S1x256x2048 .i8) : IVec S256x2048 1 := k1_pay2 (View.ld adj qAdj)
/-- Head 0's scores before masking. -/
def score1_0 (s : Vec F S1x4x256x1 .f32) (d : Vec F S1x4x1x2048 .f32) (adj : Vec F S1x256x2048 .i8) : FVec F S256x2048 .f32 := k1_pay3 (View.ld s qS0) (View.ld d qD0)
/-- Head 1's masked scores. -/
def score1_1 (s : Vec F S1x4x256x1 .f32) (d : Vec F S1x4x1x2048 .f32) (adj : Vec F S1x256x2048 .i8) : FVec F S256x2048 .f32 := k1_pay14 (edges1 adj) (View.ld s qS1) (View.ld d qD1)
/-- Head 2's masked scores. -/
def score1_2 (s : Vec F S1x4x256x1 .f32) (d : Vec F S1x4x1x2048 .f32) (adj : Vec F S1x256x2048 .i8) : FVec F S256x2048 .f32 := k1_pay23 (edges1 adj) (View.ld s qS2) (View.ld d qD2)
/-- Head 3's masked scores. -/
def score1_3 (s : Vec F S1x4x256x1 .f32) (d : Vec F S1x4x1x2048 .f32) (adj : Vec F S1x256x2048 .i8) : FVec F S256x2048 .f32 := k1_pay32 (edges1 adj) (View.ld s qS3) (View.ld d qD3)
/-- Head 0's columns of the result. -/
def outX0 (s : Vec F S1x4x256x1 .f32) (d : Vec F S1x4x1x2048 .f32) (adj : Vec F S1x256x2048 .i8) (h : Vec F S1x4x2048x64 .f32) (b : Vec F S1x64 .f32) : Vec F S1x256x64 .f32 := k1_pay13 (k1_pay11 (edges1 adj) (score1_0 s d adj) (Scalar.ofBits .f32 0x00000000#32) (View.ld h qH0)) (k1_pay12 (View.ld b qB))
/-- Head 1's columns of the result. -/
def outX1 (s : Vec F S1x4x256x1 .f32) (d : Vec F S1x4x1x2048 .f32) (adj : Vec F S1x256x2048 .i8) (h : Vec F S1x4x2048x64 .f32) (b : Vec F S1x64 .f32) : Vec F S1x256x64 .f32 := k1_pay22 (k1_pay21 (score1_1 s d adj) (View.ld h qH1) (View.ld b qB))
/-- Head 2's columns of the result. -/
def outX2 (s : Vec F S1x4x256x1 .f32) (d : Vec F S1x4x1x2048 .f32) (adj : Vec F S1x256x2048 .i8) (h : Vec F S1x4x2048x64 .f32) (b : Vec F S1x64 .f32) : Vec F S1x256x64 .f32 := k1_pay31 (k1_pay30 (score1_2 s d adj) (View.ld h qH2) (View.ld b qB))
/-- Head 3's columns of the result. -/
def outX3 (s : Vec F S1x4x256x1 .f32) (d : Vec F S1x4x1x2048 .f32) (adj : Vec F S1x256x2048 .i8) (h : Vec F S1x4x2048x64 .f32) (b : Vec F S1x64 .f32) : Vec F S1x256x64 .f32 := k1_pay1 (k1_pay39 (score1_3 s d adj) (View.ld h qH3) (View.ld b qB))
/-- Head 0's weights. -/
def outW0 (s : Vec F S1x4x256x1 .f32) (d : Vec F S1x4x1x2048 .f32) (adj : Vec F S1x256x2048 .i8) (h : Vec F S1x4x2048x64 .f32) : Vec F S1x1x256x2048 .f32 := k1_pay10 (edges1 adj) (score1_0 s d adj) (Scalar.ofBits .f32 0x00000000#32) (View.ld h qH0)
/-- Head 1's weights. -/
def outW1 (s : Vec F S1x4x256x1 .f32) (d : Vec F S1x4x1x2048 .f32) (adj : Vec F S1x256x2048 .i8) (h : Vec F S1x4x2048x64 .f32) : Vec F S1x1x256x2048 .f32 := k1_pay20 (score1_1 s d adj) (View.ld h qH1)
/-- Head 2's weights. -/
def outW2 (s : Vec F S1x4x256x1 .f32) (d : Vec F S1x4x1x2048 .f32) (adj : Vec F S1x256x2048 .i8) (h : Vec F S1x4x2048x64 .f32) : Vec F S1x1x256x2048 .f32 := k1_pay29 (score1_2 s d adj) (View.ld h qH2)
/-- Head 3's weights. -/
def outW3 (s : Vec F S1x4x256x1 .f32) (d : Vec F S1x4x1x2048 .f32) (adj : Vec F S1x256x2048 .i8) (h : Vec F S1x4x2048x64 .f32) : Vec F S1x1x256x2048 .f32 := k1_pay38 (score1_3 s d adj) (View.ld h qH3)
/-- The block of the first result: the four heads side by side. -/
def blockX (s : Vec F S1x4x256x1 .f32) (d : Vec F S1x4x1x2048 .f32) (adj : Vec F S1x256x2048 .i8) (h : Vec F S1x4x2048x64 .f32) (b : Vec F S1x64 .f32) : Vec F S1x256x256 .f32 :=
  View.canon [⟨qO3, outX3 s d adj h b⟩, ⟨qO2, outX2 s d adj h b⟩, ⟨qO1, outX1 s d adj h b⟩, ⟨qO0, outX0 s d adj h b⟩]
/-- The block of the second result: the four heads' weights. -/
def blockW (s : Vec F S1x4x256x1 .f32) (d : Vec F S1x4x1x2048 .f32) (adj : Vec F S1x256x2048 .i8) (h : Vec F S1x4x2048x64 .f32) : Vec F S1x4x256x2048 .f32 :=
  View.canon [⟨qW3, outW3 s d adj h⟩, ⟨qW2, outW2 s d adj h⟩, ⟨qW1, outW1 s d adj h⟩, ⟨qW0, outW0 s d adj h⟩]
/-- The four pieces tile the block. -/
theorem cover_blockX (p0 p1 p2 p3 : Vec F S1x256x64 .f32) (y : S1x256x256.Idx) :
    ∃ pc ∈ ([⟨qO3, p0⟩, ⟨qO2, p1⟩, ⟨qO1, p2⟩, ⟨qO0, p3⟩] : List (View.Piece (Elt F) S1x256x256 .f32)), y ∈ pc.1.set :=
  View.cover_of_tiled [⟨qO3, p0⟩, ⟨qO2, p1⟩, ⟨qO1, p2⟩, ⟨qO0, p3⟩] S1x256x64.size (by rfl) y
/-- The four pieces tile the block. -/
theorem cover_blockW (p0 p1 p2 p3 : Vec F S1x1x256x2048 .f32) (y : S1x4x256x2048.Idx) :
    ∃ pc ∈ ([⟨qW3, p0⟩, ⟨qW2, p1⟩, ⟨qW1, p2⟩, ⟨qW0, p3⟩] : List (View.Piece (Elt F) S1x4x256x2048 .f32)), y ∈ pc.1.set :=
  View.cover_of_tiled [⟨qW3, p0⟩, ⟨qW2, p1⟩, ⟨qW1, p2⟩, ⟨qW0, p3⟩] S1x1x256x2048.size (by rfl) y

/-! ## The second kernel's triple -/

set_option maxHeartbeats 1000000 in
/-- On whole buffers holding its inputs, the second kernel leaves the inputs alone and its two result blocks computed. -/
theorem step1_run (c : Dev nD) (E : Set ℕ) (i : grid1.Coords) (arg2 : Memref sig .tc .vmem S1x4x256x1 .f32) (harg2 : arg2.IsWhole) (arg3 : Memref sig .tc .vmem S1x4x1x2048 .f32) (harg3 : arg3.IsWhole) (arg4 : Memref sig .tc .vmem S1x256x2048 .i8) (harg4 : arg4.IsWhole) (arg5 : Memref sig .tc .vmem S1x4x2048x64 .f32) (harg5 : arg5.IsWhole) (arg6 : Memref sig .tc .vmem S1x64 .f32) (harg6 : arg6.IsWhole) (arg7 : Memref sig .tc .vmem S1x256x256 .f32) (harg7 : arg7.IsWhole) (arg8 : Memref sig .tc .vmem S1x4x256x2048 .f32) (harg8 : arg8.IsWhole)
    (x0 : Vec F S1x4x256x1 .f32) (x1 : Vec F S1x4x1x2048 .f32) (x2 : Vec F S1x256x2048 .i8) (x3 : Vec F S1x4x2048x64 .f32) (x4 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (blockX x0 x1 x2 x3 x4) ∗ owns (c : Thread nD τ) arg8 fullShare (blockW x0 x1 x2 x3)) -∗ K ⟨⟩))
      ⊢ wp frame (wpE (defs₀ (F := F)) Variants.none c none) E (cc1__attn1_kernel i arg2 harg2 arg3 harg3 arg4 harg4 arg5 harg5 arg6 harg6 arg7 harg7 arg8 harg8) K := by
  simp only [cc1__attn1_kernel_eq_skeleton]; unfold cc1__attn1_kernel_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_blockX _ _ _ _)).trans ?_
    rfl
  iexists _; isplitr
  swap; · iexact H6
  ipureintro
  refine (View.read_writes_eq_canon _ _ _ (cover_blockW _ _ _ _)).trans ?_
  rfl

/-! ## The second call at every point -/

variable (V : (c : Dev nD) → (b : Ref sig .tc) → Buf (Elt F) ((c : Thread nD τ).loc b))

/-- Window `w`'s block at point `t` of the second call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body each input's buffer is at its block and each result's at its computed block; nothing is carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => blockX (iblk1 V c 0 t) (iblk1 V c 1 t) (iblk1 V c 2 t) (iblk1 V c 3 t) (iblk1 V c 4 t)
    | ⟨6, _⟩ => blockW (iblk1 V c 0 t) (iblk1 V c 1 t) (iblk1 V c 2 t) (iblk1 V c 3 t)
  Φ _ := Pipeline.ΦA spec1 c
  q _ := fullShare
  owed _ := 0

/-- The second call's arrays at its entry. -/
theorem A_eq1 (c : Dev nD) (w : Fin cfg1.W) : (dat1 V c).A w = V c (Pipeline.arrRef spec1 w) := by dsimp only [dat1]
/-- What a step of the second call leaves in the window of the source scores. -/
theorem after1_0 (c : Dev nD) (t : Fin cfg1.N) : (dat1 V c).after 0 t = iblk1 V c 0 t := by dsimp only [dat1]
/-- What a step of the second call leaves in the window of the destination scores. -/
theorem after1_1 (c : Dev nD) (t : Fin cfg1.N) : (dat1 V c).after 1 t = iblk1 V c 1 t := by dsimp only [dat1]
/-- What a step of the second call leaves in the window of the adjacency as int8. -/
theorem after1_2 (c : Dev nD) (t : Fin cfg1.N) : (dat1 V c).after 2 t = iblk1 V c 2 t := by dsimp only [dat1]
/-- What a step of the second call leaves in the window of the projected rows. -/
theorem after1_3 (c : Dev nD) (t : Fin cfg1.N) : (dat1 V c).after 3 t = iblk1 V c 3 t := by dsimp only [dat1]
/-- What a step of the second call leaves in the window of the bias. -/
theorem after1_4 (c : Dev nD) (t : Fin cfg1.N) : (dat1 V c).after 4 t = iblk1 V c 4 t := by dsimp only [dat1]
/-- What a step of the second call leaves in the window of the rows of the first result. -/
theorem after1_5 (c : Dev nD) (t : Fin cfg1.N) : (dat1 V c).after 5 t = blockX (iblk1 V c 0 t) (iblk1 V c 1 t) (iblk1 V c 2 t) (iblk1 V c 3 t) (iblk1 V c 4 t) := by dsimp only [dat1]
/-- What a step of the second call leaves in the window of the weights of the second result. -/
theorem after1_6 (c : Dev nD) (t : Fin cfg1.N) : (dat1 V c).after 6 t = blockW (iblk1 V c 0 t) (iblk1 V c 1 t) (iblk1 V c 2 t) (iblk1 V c 3 t) := by dsimp only [dat1]
/-- What a step of the second call finds in the window of the source scores. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- What a step of the second call finds in the window of the destination scores. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- What a step of the second call finds in the window of the adjacency as int8. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- What a step of the second call finds in the window of the projected rows. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- What a step of the second call finds in the window of the bias. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at a point. -/
theorem body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (step1_run c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The second call's body obligation, at every point. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (body1 V c t) rfl .rfl fun _ => .rfl

end Cert.KernelIdeal.Gat

end
-- ==== Proof.Ideal.Run.lean ====
module

public import proofs.«01_k».proof.Proof.Ideal.Region0
public import proofs.«01_k».proof.Proof.Ideal.Region1
public import proofs.«01_k».proof.Proof.Gen.KernelIdeal.Regions
public import Idealize.ShloMosaic.Lib.Pipeline.FrameSuffix
public import Idealize.ShloMosaic.Lib.Pipeline.RegionsLoop

/-! # The whole program

The contents of the buffers between its steps, its two calls as segments, and its run. -/

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the program's steps -/

/-- The argument arrays. -/
abbrev argRefs : List (Ref sig .tc) := [main_arg0, main_arg1, main_arg2, main_arg3, main_arg4, main_arg5, main_arg6, main_arg7, main_arg8, main_arg9]

/-- At the launch. -/
abbrev C0 : Dev nD → Valuation τ sig (Elt F) := fun c b => m (c, b)
/-- When the first call starts: after the reshape of its bias. -/
abbrev C1 : Dev nD → Valuation τ sig (Elt F) := fun c => StableHlo.after hostOps0 (C0 m c)
/-- The same, at the references the call's data take. -/
abbrev U1 : (c : Dev nD) → (b : Ref sig .tc) → Buf (Elt F) ((c : Thread nD τ).loc b) := fun c b => C1 m c b
/-- When the first call has ended. -/
def C2 (c : Dev nD) : Valuation τ sig (Elt F) :=
  Pipeline.withArrays spec0 c (C1 m c) fun w => (dat0 (U1 m) c).arrAt w cfg0.N
abbrev U2 : (c : Dev nD) → (b : Ref sig .tc) → Buf (Elt F) ((c : Thread nD τ).loc b) := fun c b => C2 m c b
/-- When the second call starts: after the reshape of its bias. -/
abbrev C3 : Dev nD → Valuation τ sig (Elt F) := fun c => StableHlo.after hostOps1 (C2 m c)
abbrev U3 : (c : Dev nD) → (b : Ref sig .tc) → Buf (Elt F) ((c : Thread nD τ).loc b) := fun c b => C3 m c b
/-- At the end. -/
def C4 (c : Dev nD) : Valuation τ sig (Elt F) :=
  Pipeline.withArrays spec1 c (C3 m c) fun w => (dat1 (U3 m) c).arrAt w cfg1.N
abbrev U4 : (c : Dev nD) → (b : Ref sig .tc) → Buf (Elt F) ((c : Thread nD τ).loc b) := fun c b => C4 m c b

/-- The host's first stretch writes no argument. -/
theorem hostOps0_args : ∀ a ∈ argRefs, a ∉ hostOps0_W := ListAll.forall_mem_of_all_decide (by decide +kernel)
/-- The host's second stretch writes no argument. -/
theorem hostOps1_args : ∀ a ∈ argRefs, a ∉ hostOps1_W := ListAll.forall_mem_of_all_decide (by decide +kernel)
/-- A reference the first reshape does not write keeps its contents across it. -/
theorem C1_of (c : Dev nD) (r : Ref sig .tc) (h : r ∉ hostOps0_W) : C1 m c (Proc.devRef .tc r) = C0 m c (Proc.devRef .tc r) :=
  StableHlo.after_of_writes_sub hostOps0 _ hostOps0_writes h
/-- A reference the second reshape does not write keeps its contents across it. -/
theorem C3_of (c : Dev nD) (r : Ref sig .tc) (h : r ∉ hostOps1_W) : C3 m c (Proc.devRef .tc r) = C2 m c (Proc.devRef .tc r) :=
  StableHlo.after_of_writes_sub hostOps1 _ hostOps1_writes h
/-- The arguments after the host's first stretch. -/
theorem C1_args (c : Dev nD) : ∀ a ∈ argRefs, C1 m c (Proc.devRef .tc a) = m ((c : Thread nD τ).loc a) :=
  fun a ha => C1_of m c a (hostOps0_args a ha)

/-- The first call's arrays after it. -/
theorem C2_arr (c : Dev nD) (w : Fin cfg0.W) :
    C2 m c (Proc.devRef .tc (Pipeline.arrRef spec0 w)) = (dat0 (U1 m) c).arrAt w cfg0.N := by
  unfold C2; exact Pipeline.withArrays_arr spec0 launch0.win.arr_inj c _ _ w
/-- Every other buffer after the first call. -/
theorem C2_of_ne (c : Dev nD) (b : Ref sig .tc) (hb : ∀ w, Pipeline.arrRef spec0 w ≠ b) :
    C2 m c (Proc.devRef .tc b) = C1 m c (Proc.devRef .tc b) := by
  unfold C2; exact Pipeline.withArrays_of_ne spec0 c _ _ b hb
/-- A reference that is none of the call's result arrays keeps its contents across the call. -/
theorem C2_of (c : Dev nD) (r : Ref sig .tc) (h : ∀ w : Fin cfg0.W, Pipeline.arrRef spec0 w = r → (cfg0.win w).isOut = false) :
    C2 m c (Proc.devRef .tc r) = C1 m c (Proc.devRef .tc r) := by
  by_cases hw : ∃ w : Fin cfg0.W, Pipeline.arrRef spec0 w = r
  · obtain ⟨w, rfl⟩ := hw
    exact (C2_arr m c w).trans (((dat0 (U1 m) c).arrAt_in w (h w rfl) _).trans (A_eq0 (U1 m) c w))
  · exact C2_of_ne m c r fun w e => hw ⟨w, e⟩
/-- The arguments among the first call's arrays are inputs. -/
theorem argsIn0 : ∀ a ∈ argRefs, ∀ w : Fin cfg0.W, Pipeline.arrRef spec0 w = a → (cfg0.win w).isOut = false :=
  ListAll.forall_mem_of_all_decide (by decide +kernel)
/-- The arguments after the first call. -/
theorem C2_args (c : Dev nD) : ∀ a ∈ argRefs, C2 m c (Proc.devRef .tc a) = m ((c : Thread nD τ).loc a) :=
  fun a ha => (C2_of m c a (argsIn0 a ha)).trans (C1_args m c a ha)
/-- The arguments after the host's second stretch. -/
theorem C3_args (c : Dev nD) : ∀ a ∈ argRefs, C3 m c (Proc.devRef .tc a) = m ((c : Thread nD τ).loc a) :=
  fun a ha => (C3_of m c a (hostOps1_args a ha)).trans (C2_args m c a ha)

/-- The second call's arrays after it. -/
theorem C4_arr (c : Dev nD) (w : Fin cfg1.W) :
    C4 m c (Proc.devRef .tc (Pipeline.arrRef spec1 w)) = (dat1 (U3 m) c).arrAt w cfg1.N := by
  unfold C4; exact Pipeline.withArrays_arr spec1 launch1.win.arr_inj c _ _ w
/-- Every other buffer after the second call. -/
theorem C4_of_ne (c : Dev nD) (b : Ref sig .tc) (hb : ∀ w, Pipeline.arrRef spec1 w ≠ b) :
    C4 m c (Proc.devRef .tc b) = C3 m c (Proc.devRef .tc b) := by
  unfold C4; exact Pipeline.withArrays_of_ne spec1 c _ _ b hb
/-- A reference that is none of the call's result arrays keeps its contents across the call. -/
theorem C4_of (c : Dev nD) (r : Ref sig .tc) (h : ∀ w : Fin cfg1.W, Pipeline.arrRef spec1 w = r → (cfg1.win w).isOut = false) :
    C4 m c (Proc.devRef .tc r) = C3 m c (Proc.devRef .tc r) := by
  by_cases hw : ∃ w : Fin cfg1.W, Pipeline.arrRef spec1 w = r
  · obtain ⟨w, rfl⟩ := hw
    exact (C4_arr m c w).trans (((dat1 (U3 m) c).arrAt_in w (h w rfl) _).trans (A_eq1 (U3 m) c w))
  · exact C4_of_ne m c r fun w e => hw ⟨w, e⟩
/-- The arguments among the second call's arrays are inputs. -/
theorem argsIn1 : ∀ a ∈ argRefs, ∀ w : Fin cfg1.W, Pipeline.arrRef spec1 w = a → (cfg1.win w).isOut = false :=
  ListAll.forall_mem_of_all_decide (by decide +kernel)
/-- The arguments at the end. -/
theorem C4_args (c : Dev nD) : ∀ a ∈ argRefs, C4 m c (Proc.devRef .tc a) = m ((c : Thread nD τ).loc a) :=
  fun a ha => (C4_of m c a (argsIn1 a ha)).trans (C3_args m c a ha)

/-! ## The calls as segments of the program -/

/-- The two calls' proof data, each at the contents its call finds. -/
def datas : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
/-- No core owes another anything. -/
abbrev lvls : GSem nD τ sig → Finset Unit := fun _ => ∅
abbrev lvl : GSem nD τ sig → Unit → ℕ := fun _ _ => 0
/-- What rides beside the buffers: the generator register and the core owing nothing. -/
abbrev beside (c : Dev nD) : sProp 𝕄 := iprop((∃ r, prngReg c r) ∗ ∃ W, owes (c : Thread nD τ) (0 : CellTallies nD τ sig Unit) W)
/-- A host stretch as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvls lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
/-- An unscoped reference is among those a core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at its final contents. -/
abbrev lastSt (c : Dev nD) : sProp 𝕄 := iprop(StableHlo.held (c : Thread nD τ) (Pipeline.ucRefs τ sig) (C4 m c) ∗ ∃ r, prngReg c r)

set_option backward.isDefEq.respectTransparency.types false in
/-- The first call: its arrays taken out of the buffers it starts from and put back at what it leaves. -/
def reg0 : Pipeline.RegionSeg (pcfgs (F := F)) adm (datas m) () defs₀ Variants.none lvls lvl 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ lvls lvl 0 fun _ _ => rfl
  pre c := iprop(StableHlo.held (c : Thread nD τ) (Pipeline.ucRefs τ sig) (C1 m c) ∗ beside c)
  post c := iprop(StableHlo.held (c : Thread nD τ) (Pipeline.ucRefs τ sig) (C2 m c) ∗ beside c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (datas m) launch0.win launch0.arr_whole c
      ((datas m 0 c).share_full fun _ => rfl) (U1 m c) (A_eq0 (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 0 c).Φ 0 = Pipeline.ΦA spec0 c from rfl]; unfold Pipeline.ΦA
    iintro ⟨Hp, -, Hr⟩
    isplitl [Hr]; · iexact Hr
    iexact Hp
  hout c := by
    have hend : (datas m 0 c).Φ (Fin.last _) ⊢ Pipeline.ΦA spec0 c := Phi0_forget (U1 m) c (Fin.last cfg0.N)
    unfold Pipeline.ΦA at hend
    rw [Pipeline.ownSems0_none]
    iintro HΦ
    ihave H := hend $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (datas m) ((datas m 0 c).share_full fun _ => rfl)
      (U1 m c) (U2 m c) ((datas m 0 c).arrAt · cfg0.N) (fun w => (C2_arr m c w).symm)
      (fun b hb => C2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: its arrays taken out of the buffers it starts from and put back at what it leaves. -/
def reg1 : Pipeline.RegionSeg (pcfgs (F := F)) adm (datas m) () defs₀ Variants.none lvls lvl 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ lvls lvl 1 fun _ _ => rfl
  pre c := iprop(StableHlo.held (c : Thread nD τ) (Pipeline.ucRefs τ sig) (C3 m c) ∗ beside c)
  post c := iprop(StableHlo.held (c : Thread nD τ) (Pipeline.ucRefs τ sig) (C4 m c) ∗ beside c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (datas m) launch1.win launch1.arr_whole c
      ((datas m 1 c).share_full fun _ => rfl) (U3 m c) (A_eq1 (U3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 1 c).Φ 0 = Pipeline.ΦA spec1 c from rfl]; unfold Pipeline.ΦA
    iintro ⟨Hp, -, Hr⟩
    isplitl [Hr]; · iexact Hr
    iexact Hp
  hout c := by
    rw [Pipeline.ownSems0_none, show (datas m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (datas m) ((datas m 1 c).share_full fun _ => rfl)
      (U3 m c) (U4 m c) ((datas m 1 c).arrAt · cfg1.N) (fun w => (C4_arr m c w).symm)
      (fun b hb => C4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and its run -/

/-- The program's four segments in order. -/
abbrev parts : List (Pipeline.Seg (pcfgs (F := F)) adm (datas m) () defs₀ Variants.none lvls lvl) :=
  [ .host (stretch hostOps0 hostOps0_sub hostOps0_fresh (C0 m)),
    .region (reg0 m),
    .host (stretch hostOps1 hostOps1_sub hostOps1_fresh (C2 m)),
    .region (reg1 m) ]
/-- The program is its four segments in order. -/
theorem main_parts (c : Dev nD) : main (F := F) c = Pipeline.Seg.run (parts m) := (main_chain c).trans (by chain_rfl)

set_option backward.isDefEq.respectTransparency.types false in
/-- Every weakly fair execution from zero counters ends, with every unscoped buffer at the contents computed above and
    every counter at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = C4 m c b) ∧ r.2.sem = fun _ => 0) :=
  Pipeline.θ_run_regions_kit_sems (pcfgs (F := F)) adm (datas m) () cellOf_inj emb₁ defs₀ Variants.none lvls lvl m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m c) ∗ beside c)) (Tₙ := lastSt m)
    (hch := ⟨fun _ => .rfl, fun _ => .rfl, fun _ => .rfl, fun _ => .rfl, fun c => by
      show iprop(StableHlo.held (c : Thread nD τ) (Pipeline.ucRefs τ sig) (C4 m c) ∗ beside c) ⊢ _
      iintro ⟨H, Hp, HO⟩
      isplitl [H Hp]
      · isplitl [H] <;> iassumption
      iexact HO⟩)
    (hinit := by
      refine Pipeline.initEach lvls lvl fun c => ?_
      rw [show unscopedBufs c (fun b => m ((c : Thread nD τ).loc b)) = StableHlo.held (c : Thread nD τ) (Pipeline.ucRefs τ sig) (C0 m c)
        from Pipeline.unscopedBufs_held c (C0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C4 m c b)
    (hfin := fun c s' => by
      iintro ⟨⟨Hh, -⟩, HSI⟩
      unfold StableHlo.held
      imodintro
      iapply (pointsTo_read_all (Pipeline.ucRefs τ sig) (fun b => (((c : Thread nD τ)).1, b)) (C4 m c) s')
      isplitl [Hh] <;> iassumption)
    (hQ := fun s h hz => ⟨h, funext fun g => hz g (.inr (regions_no_unscoped g.2))⟩)

/-- Every argument ends as launched. -/
theorem args_kept (f : (ℓ : Loc nD τ sig) → Buf (Elt F) ℓ) (h : ∀ c : Dev nD, ∀ b ∈ Pipeline.ucRefs τ sig, f ((c : Thread nD τ).1, b) = C4 m c b) :
    ∀ c : Dev nD, ∀ a ∈ argRefs, ¬ (Proc.devRef .tc a : DevRef τ sig).isScoped →
      f ((c.tc : Thread nD τ).loc a) = m ((c.tc : Thread nD τ).loc a) :=
  fun c a ha hs => (h c _ (mem_uc a hs)).trans (C4_args m c a ha)

/-- Every execution ends with the arguments as launched and every counter at zero. -/
theorem runs_clean : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun s h => ⟨fun c => ⟨args_kept m s.2.mem h.1 c main_arg0 (by decide) (by decide), args_kept m s.2.mem h.1 c main_arg1 (by decide) (by decide), args_kept m s.2.mem h.1 c main_arg2 (by decide) (by decide), args_kept m s.2.mem h.1 c main_arg3 (by decide) (by decide), args_kept m s.2.mem h.1 c main_arg4 (by decide) (by decide), args_kept m s.2.mem h.1 c main_arg5 (by decide) (by decide), args_kept m s.2.mem h.1 c main_arg6 (by decide) (by decide), args_kept m s.2.mem h.1 c main_arg7 (by decide) (by decide), args_kept m s.2.mem h.1 c main_arg8 (by decide) (by decide), args_kept m s.2.mem h.1 c main_arg9 (by decide) (by decide)⟩, h.2⟩) (run m ρ)

end Cert.KernelIdeal.Gat

end
-- ==== Proof.Bits.lean ====
module

public import proofs.«01_k».proof.Defs
public import proofs.«01_k».proof.Proof.Gen.Kernel
public import proofs.«01_k».proof.Proof.Ideal.Run

/-! # The printed kernel's run

The program with named constants, read with each constant at its literal's own bits, is the printed kernel: so the run
proved of the one is the run of the other. -/

@[expose] public section

noncomputable section

namespace Cert.Kernel.Gat

open Idealize.ShloMosaic Idealize.ShloMosaic.TcCoe Idealize.SL.Sem

/-- Every named constant at its literal's own bits. -/
local instance literalNamed : Named Bits where
  named _ _ {φ} bits := Scalar.ofBits (F := Bits) φ bits

/-- Every execution of the printed kernel ends with the arguments as launched and every counter at zero. -/
theorem runs_clean : Cert.quiescent_Kernel (hKernel := Cert.Kernel.Gen.facts) := fun m g _ =>
  cast (by chain_rfl) (Cert.KernelIdeal.Gat.runs_clean (F := Bits) m g)

end Cert.Kernel.Gat

end
-- ==== Proof.Value.Math.lean ====
module

public import Idealize.ShloMosaic.PureOps.Ideal
public import Idealize.ShloMosaic.PureOps.Ideal.Laws
public import Mathlib.Data.EReal.Operations
public import Mathlib.Data.EReal.Inv

/-! # One row of graph attention, over the extended reals

A row has a real source score `s`, real destination scores `d`, a set of neighbours and a column of values.  Its
attention weights are the softmax over the neighbours of the leaky scores; a row with no neighbour has the uniform
weights.  The factored exponentials of the kernel and the shifted exponentials of the textbook softmax both give
these weights, and a sum of values under real weights may be divided once, at the end. -/

@[expose] public section

noncomputable section

namespace Cert.Gat

open Idealize.ShloMosaic
open scoped BigOperators

/-- The slope of the leaky rectifier: the single-precision number nearest to 0.2. -/
def slope : ℝ := 13421773 / 67108864

/-- The leaky rectifier. -/
def leaky (x : ℝ) : ℝ := if 0 < x then x else slope * x

/-- The number of rows of a batch, which is the length of a row. -/
abbrev Row := Fin 2048

open Classical in
/-- What a neighbour contributes before normalisation, and zero for a non-neighbour. -/
def mass (s : ℝ) (d : Row → ℝ) (edge : Row → Prop) (j : Row) : ℝ :=
  if edge j then Real.exp (leaky (s + d j)) else 0

open Classical in
/-- The attention weights of a row. -/
def weight (s : ℝ) (d : Row → ℝ) (edge : Row → Prop) (j : Row) : ℝ :=
  if ∃ k, edge k then mass s d edge j / ∑ k, mass s d edge k else 1 / 2048

/-- A neighbour's mass is not negative. -/
theorem mass_nonneg (s : ℝ) (d : Row → ℝ) (edge : Row → Prop) (j : Row) : 0 ≤ mass s d edge j := by
  unfold mass; split_ifs
  · exact (Real.exp_pos _).le
  · exact le_rfl

/-- A row with a neighbour has positive total mass. -/
theorem total_pos (s : ℝ) (d : Row → ℝ) (edge : Row → Prop) (h : ∃ k, edge k) : 0 < ∑ k, mass s d edge k := by
  obtain ⟨k, hk⟩ := h
  refine Finset.sum_pos' (fun j _ => mass_nonneg s d edge j) ⟨k, Finset.mem_univ k, ?_⟩
  unfold mass; rw [if_pos hk]; exact Real.exp_pos _

/-- A row without neighbours has no mass. -/
theorem mass_zero (s : ℝ) (d : Row → ℝ) (edge : Row → Prop) (h : ¬∃ k, edge k) (j : Row) : mass s d edge j = 0 := by
  unfold mass; rw [if_neg]; exact fun hj => h ⟨j, hj⟩

/-- A weight is not negative. -/
theorem weight_nonneg (s : ℝ) (d : Row → ℝ) (edge : Row → Prop) (j : Row) : 0 ≤ weight s d edge j := by
  unfold weight; split_ifs
  · exact div_nonneg (mass_nonneg ..) (Finset.sum_nonneg fun k _ => mass_nonneg ..)
  · norm_num

/-! ## Finite sums of extended reals -/

/-- A finite sum of reals is the same sum in the extended reals. -/
theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A nonnegative real factor may be drawn out of a finite sum of extended reals. -/
theorem mul_sum {ι : Type*} (t : Finset ι) (c : ℝ) (hc : 0 ≤ c) (f : ι → EReal) :
    (c : EReal) * ∑ k ∈ t, f k = ∑ k ∈ t, (c : EReal) * f k := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- The greatest of finitely many real numbers, at least one, is one of them. -/
theorem fold_max_real {ι : Type*} [Fintype ι] [Nonempty ι] (f : ι → EReal) (hf : ∀ i, ∃ r : ℝ, f i = r) :
    ∃ r : ℝ, Finset.univ.fold max (⊥ : EReal) f = r := by
  classical
  have key : ∀ t : Finset ι, (t.Nonempty → ∃ r : ℝ, t.fold max (⊥ : EReal) f = r) := by
    intro t
    induction t using Finset.induction_on with
    | empty => intro h; exact absurd h Finset.not_nonempty_empty
    | insert a t ha ih =>
      intro _
      rw [Finset.fold_insert ha]
      obtain ⟨r, hr⟩ := hf a
      rcases t.eq_empty_or_nonempty with rfl | ht
      · exact ⟨r, by rw [Finset.fold_empty, hr]; exact max_eq_left bot_le⟩
      · obtain ⟨r', hr'⟩ := ih ht
        refine ⟨max r r', ?_⟩
        rw [hr, hr', EReal.coe_strictMono.monotone.map_max]
  exact key _ Finset.univ_nonempty

/-- The greatest of finitely many values none of which is plus infinity, and one of which is real, is real. -/
theorem fold_max_real_of_one {ι : Type*} [Fintype ι] (f : ι → EReal) (hf : ∀ i, f i ≠ ⊤) (i₀ : ι)
    (h₀ : f i₀ ≠ ⊥) : ∃ r : ℝ, Finset.univ.fold max (⊥ : EReal) f = r := by
  have hlt : Finset.univ.fold max (⊥ : EReal) f < ⊤ := by
    rw [Finset.fold_max_lt]
    exact ⟨bot_lt_top, fun i _ => lt_of_le_of_ne le_top (hf i)⟩
  have hge : f i₀ ≤ Finset.univ.fold max (⊥ : EReal) f := by
    rw [Finset.le_fold_max]
    exact Or.inr ⟨i₀, Finset.mem_univ _, le_rfl⟩
  refine ⟨(Finset.univ.fold max (⊥ : EReal) f).toReal, (EReal.coe_toReal hlt.ne ?_).symm⟩
  intro hb
  rw [hb] at hge
  exact h₀ (le_bot_iff.1 hge)

/-! ## The kernel's row -/

/-- What one pair of rows contributes in the kernel: the greater of two products of exponentials, one for each branch
    of the leaky rectifier, both measured from the top destination score `M`. -/
def pull (M s x : EReal) : EReal :=
  max (Ideal.exp (((53687091 / 67108864 : ℝ) : EReal) * min (s + M) 0) * Ideal.exp (x - M))
    (Ideal.exp (((-53687091 / 67108864 : ℝ) : EReal) * max (s + M) 0)
      * Ideal.exp (((13421773 / 67108864 : ℝ) : EReal) * (x - M)))

/-- The factored exponentials multiply to the exponential of the leaky score, measured from the leaky score of the
    top. -/
theorem pull_eq (M s x : ℝ) :
    pull M s x = ((Real.exp (leaky (s + x)) * Real.exp (-leaky (s + M)) : ℝ) : EReal) := by
  have h0 : (0 : EReal) = ((0 : ℝ) : EReal) := rfl
  unfold pull
  rw [← EReal.coe_add, ← EReal.coe_sub, h0, ← EReal.coe_strictMono.monotone.map_min,
    ← EReal.coe_strictMono.monotone.map_max, ← EReal.coe_mul, ← EReal.coe_mul, ← EReal.coe_mul,
    Ideal.exp_coe, Ideal.exp_coe, Ideal.exp_coe, Ideal.exp_coe, ← EReal.coe_mul, ← EReal.coe_mul,
    ← EReal.coe_strictMono.monotone.map_max, ← Real.exp_add, ← Real.exp_add, ← Real.exp_add,
    ← Real.exp_strictMono.monotone.map_max]
  refine congrArg _ (congrArg _ ?_)
  unfold leaky slope
  rcases le_or_gt (s + M) 0 with hz | hz
  · rw [min_eq_left hz, max_eq_right hz, if_neg hz.not_gt]
    rcases le_or_gt (s + x) 0 with hx | hx
    · rw [if_neg hx.not_gt, max_eq_right] <;> linarith
    · rw [if_pos hx, max_eq_left] <;> linarith
  · rw [min_eq_right hz.le, max_eq_left hz.le, if_pos hz]
    rcases le_or_gt (s + x) 0 with hx | hx
    · rw [if_neg hx.not_gt, max_eq_right] <;> linarith
    · rw [if_pos hx, max_eq_left] <;> linarith

/-- The reciprocal the kernel scales a row by: of its total, or of one in a row with nothing. -/
def scale (e : Row → EReal) : EReal := Ideal.div 1 (if ∑ k, e k = 0 then 1 else ∑ k, e k)

/-- The kernel's weight of one pair of rows. -/
def rowWeight (e : Row → EReal) (j : Row) : EReal :=
  e j * scale e + (if ∑ k, e k = 0 then ((1 / 2048 : ℝ) : EReal) else 0)

/-- The kernel's value of a row: the weighted values scaled once, or in a row with nothing the mean. -/
def rowValue (e h : Row → EReal) : EReal :=
  if ∑ k, e k = 0 then Ideal.div (∑ k, h k) ((2048 : ℝ) : EReal) else (∑ k, e k * h k) * scale e

section KernelRow

variable (M s : ℝ) (d : Row → ℝ) (edge : Row → Prop) (e : Row → EReal)
  (he : ∀ j, e j = ((mass s d edge j * Real.exp (-leaky (s + M)) : ℝ) : EReal))

include he

/-- The sum of a row's contributions, by the sum of its masses. -/
theorem total_eq : ∑ k, e k = (((∑ k, mass s d edge k) * Real.exp (-leaky (s + M)) : ℝ) : EReal) := by
  rw [Finset.sum_mul, coe_sum]; exact Finset.sum_congr rfl fun j _ => he j

/-- That sum is zero exactly in a row without neighbours. -/
theorem total_zero_iff : ∑ k, e k = 0 ↔ ¬∃ k, edge k := by
  rw [total_eq M s d edge e he]
  constructor
  · intro h hk
    have := mul_pos (total_pos s d edge hk) (Real.exp_pos (-leaky (s + M)))
    exact this.ne' (by exact_mod_cast h)
  · intro h
    rw [Finset.sum_eq_zero fun k _ => mass_zero s d edge h k, zero_mul, EReal.coe_zero]

/-- The kernel's weights are the row's attention weights. -/
theorem rowWeight_eq (j : Row) : rowWeight e j = (weight s d edge j : EReal) := by
  unfold rowWeight scale weight
  by_cases hk : ∃ k, edge k
  · have h0 : ¬∑ k, e k = 0 := fun h => (total_zero_iff M s d edge e he).1 h hk
    rw [if_neg h0, if_neg h0, if_pos hk, add_zero, he j, total_eq M s d edge e he]
    have hp := total_pos s d edge hk
    have hx := Real.exp_pos (-leaky (s + M))
    rw [Ideal.div_coe (mul_pos hp hx).ne', one_mul, ← EReal.coe_mul]
    refine congrArg _ ?_
    field_simp
  · have h0 : ∑ k, e k = 0 := (total_zero_iff M s d edge e he).2 hk
    rw [if_pos h0, if_pos h0, if_neg hk, he j, mass_zero s d edge hk j, zero_mul, EReal.coe_zero, zero_mul, zero_add]

/-- The kernel's value of a row is the sum of the values under the attention weights. -/
theorem rowValue_eq (h : Row → EReal) : rowValue e h = ∑ j, (weight s d edge j : EReal) * h j := by
  by_cases hk : ∃ k, edge k
  · have h0 : ¬∑ k, e k = 0 := fun h => (total_zero_iff M s d edge e he).1 h hk
    have hw : ∀ j, (weight s d edge j : EReal) = scale e * e j := by
      intro j
      have := rowWeight_eq M s d edge e he j
      rw [← this, rowWeight, if_neg h0, add_zero, mul_comm]
    have hs : ∃ c : ℝ, 0 ≤ c ∧ scale e = c := by
      have hp := mul_pos (total_pos s d edge hk) (Real.exp_pos (-leaky (s + M)))
      refine ⟨1 / ((∑ k, mass s d edge k) * Real.exp (-leaky (s + M))), by positivity, ?_⟩
      unfold scale
      rw [if_neg h0, total_eq M s d edge e he, Ideal.div_coe hp.ne', one_mul]
    obtain ⟨c, hc, hsc⟩ := hs
    unfold rowValue
    rw [if_neg h0, mul_comm, hsc, mul_sum _ c hc]
    refine Finset.sum_congr rfl fun j _ => ?_
    rw [hw j, hsc, mul_assoc]
  · have h0 : ∑ k, e k = 0 := (total_zero_iff M s d edge e he).2 hk
    unfold rowValue
    rw [if_pos h0, Ideal.div_coe (by norm_num), mul_comm, mul_sum _ _ (by norm_num)]
    refine Finset.sum_congr rfl fun j _ => ?_
    rw [weight, if_neg hk]

end KernelRow

/-! ## The textbook row -/

open Classical in
/-- The masked score of the textbook softmax: minus infinity off the neighbours, zero in a row that has none. -/
def maskedScore (s : ℝ) (d : Row → ℝ) (edge : Row → Prop) (j : Row) : EReal :=
  if edge j then ((leaky (s + d j) : ℝ) : EReal) else if ∃ k, edge k then ⊥ else 0

/-- The textbook softmax of the masked scores gives the row's attention weights. -/
theorem softmax_eq (s : ℝ) (d : Row → ℝ) (edge : Row → Prop) (j : Row) (T : EReal)
    (hT : T = Finset.univ.fold max (⊥ : EReal) (maskedScore s d edge)) :
    Ideal.div (Ideal.exp (maskedScore s d edge j - T)) (∑ k, Ideal.exp (maskedScore s d edge k - T))
      = (weight s d edge j : EReal) := by
  by_cases hk : ∃ k, edge k
  · obtain ⟨t, ht⟩ : ∃ t : ℝ, T = t := by
      obtain ⟨k, hk'⟩ := hk
      subst hT
      refine fold_max_real_of_one _ (fun i => ?_) k ?_
      · unfold maskedScore; split_ifs
        · exact EReal.coe_ne_top _
        · exact bot_ne_top
        · exact EReal.zero_ne_top
      · unfold maskedScore; rw [if_pos hk']; exact EReal.coe_ne_bot _
    have hm : ∀ k, Ideal.exp (maskedScore s d edge k - T) = ((mass s d edge k * Real.exp (-t) : ℝ) : EReal) := by
      intro k
      unfold maskedScore mass
      rw [ht]
      by_cases he : edge k
      · rw [if_pos he, if_pos he, ← EReal.coe_sub, Ideal.exp_coe, ← Real.exp_add, sub_eq_add_neg]
      · rw [if_neg he, if_neg he, if_pos hk, EReal.bot_sub, Ideal.exp_bot, zero_mul, EReal.coe_zero]
    rw [Finset.sum_congr rfl fun k _ => hm k, hm j, ← coe_sum, ← Finset.sum_mul]
    have hp := total_pos s d edge hk
    have hx := Real.exp_pos (-t)
    rw [Ideal.div_coe (mul_pos hp hx).ne', ← EReal.coe_mul, weight, if_pos hk]
    refine congrArg _ ?_
    field_simp
  · have hz : ∀ k, maskedScore s d edge k = ((0 : ℝ) : EReal) := by
      intro k
      unfold maskedScore; rw [if_neg fun h => hk ⟨k, h⟩, if_neg hk, EReal.coe_zero]
    obtain ⟨t, ht⟩ : ∃ t : ℝ, T = t := by
      rw [hT]; exact fold_max_real _ fun i => ⟨0, hz i⟩
    have hm : ∀ k, Ideal.exp (maskedScore s d edge k - T) = ((Real.exp (-t) : ℝ) : EReal) := by
      intro k
      rw [hz k, ht, ← EReal.coe_sub, Ideal.exp_coe, zero_sub]
    rw [Finset.sum_congr rfl fun k _ => hm k, hm j, ← coe_sum, Finset.sum_const, Finset.card_univ, Fintype.card_fin]
    have hx := Real.exp_pos (-t)
    have hn : (2048 • Real.exp (-t) : ℝ) ≠ 0 := by rw [nsmul_eq_mul]; positivity
    rw [Ideal.div_coe hn, ← EReal.coe_mul, weight, if_neg hk]
    refine congrArg _ ?_
    rw [nsmul_eq_mul]
    push_cast
    field_simp

/-! ## Scores -/

/-- A hyperbolic tangent is a real number, whatever its argument. -/
theorem tanh_real (x : EReal) : ∃ r : ℝ, Ideal.tanh x = r := by
  induction x with
  | bot => exact ⟨-1, by simp⟩
  | top => exact ⟨1, by simp⟩
  | coe r => exact ⟨Real.tanh r, rfl⟩

/-- A score, a finite sum of products of tangents with real coefficients, is a real number. -/
theorem score_real {n : ℕ} (h a : Fin n → EReal) (ha : ∀ o, ∃ r : ℝ, a o = r) :
    ∃ r : ℝ, ∑ o, Ideal.tanh (h o) * a o = r := by
  choose f hf using fun o => tanh_real (h o)
  choose g hg using ha
  refine ⟨∑ o, f o * g o, ?_⟩
  rw [coe_sum]
  refine Finset.sum_congr rfl fun o _ => ?_
  rw [hf, hg, EReal.coe_mul]

end Cert.Gat

end
-- ==== Proof.Value.Words.lean ====
module

public import proofs.«01_k».proof.Proof.Ideal.Body0
public import proofs.«01_k».proof.Proof.Value.Math

/-! # The constants the programs are printed with

Each float word of the two programs, as the extended real it denotes, and the two named constants. -/

@[expose] public section
noncomputable section
namespace Cert.KernelIdeal.Gat
open Idealize.ShloMosaic Cert.Gat

/-- The word of negative infinity. -/
theorem word_low : Ideal.ofBits .f32 0xFF800000#32 = ⊥ := by simp [Ideal.ofBits, Ideal.ieee, -EReal.coe_mul]
/-- The word of positive infinity. -/
theorem word_high : Ideal.ofBits .f32 0x7F800000#32 = ⊤ := by simp [Ideal.ofBits, Ideal.ieee, -EReal.coe_mul]
/-- The word of the negative slope. -/
theorem word_slope : Ideal.ofBits .f32 0x3E4CCCCD#32 = ((13421773 / 67108864 : ℝ) : EReal) := by
  simp [Ideal.ofBits, Ideal.ieee, -EReal.coe_mul]; norm_num
/-- The word of the number of rows. -/
theorem word_rows : Ideal.ofBits .f32 0x45000000#32 = ((2048 : ℝ) : EReal) := by
  simp [Ideal.ofBits, Ideal.ieee, -EReal.coe_mul]; norm_num
/-- The word of one row's even share. -/
theorem word_share : Ideal.ofBits .f32 0x3A000000#32 = ((1 / 2048 : ℝ) : EReal) := by
  simp [Ideal.ofBits, Ideal.ieee, -EReal.coe_mul]; norm_num
/-- The constant named `rest`. -/
theorem named_rest : Named.named (F := Ideal) (φ := .f32) κ "rest" 0x3F4CCCCD#32 = ((53687091 / 67108864 : ℝ) : EReal) :=
  IdealRules.named_const.ideal_named_scalar _ _ _ _ rfl
/-- The constant named `neg_rest`. -/
theorem named_neg_rest : Named.named (F := Ideal) (φ := .f32) κ "neg_rest" 0xBF4CCCCD#32 = ((-53687091 / 67108864 : ℝ) : EReal) :=
  IdealRules.named_const.ideal_named_scalar _ _ _ _ rfl

end Cert.KernelIdeal.Gat
end
-- ==== Proof.Value.Spec.lean ====
module

public import proofs.«01_k».proof.Proof.Value.Math

/-! # Two layers of graph attention

The mathematics both programs compute, of one batch element, without reference to either: each layer projects the rows
per head, scores them, weighs every pair of rows by a softmax over the neighbours, and sums the projected rows under
these weights.  Also the kernel's row, with its factored exponentials, as that weighted sum. -/

@[expose] public section
noncomputable section
namespace Cert.Gat
open Idealize.ShloMosaic

/-- One entry of a product of a row by a head's weights. -/
def proj {n : ℕ} (x : Fin n → EReal) (w : Fin n → Fin 64 → EReal) (o : Fin 64) : EReal := ∑ c, x c * w c o

/-- A row's score: its features' hyperbolic tangents against a weight vector. -/
def score (h : Fin 64 → EReal) (a : Fin 64 → EReal) : EReal := ∑ o, Ideal.tanh (h o) * a o

/-- The head a column of the joined output belongs to. -/
def headOf (c : Fin 256) : Fin 4 := ⟨c / 64, by omega⟩
/-- The column of its head a column of the joined output is. -/
def colOf (c : Fin 256) : Fin 64 := ⟨c % 64, by omega⟩

/-- The greatest of the destination scores of a head. -/
def topOf (d : Fin 2048 → EReal) : EReal := Finset.univ.fold max (⊥ : EReal) fun x : Fin 1 × Fin 2048 => d x.2

/-- Equal rows and weights give equal products. -/
theorem proj_congr {n : ℕ} {x x' : Fin n → EReal} {w w' : Fin n → Fin 64 → EReal} (hx : ∀ i, x i = x' i)
    (hw : ∀ i o, w i o = w' i o) (o : Fin 64) : proj x w o = proj x' w' o := by
  rw [funext hx, show w = w' from funext fun i => funext (hw i)]
/-- Equal features and attention vectors give equal scores. -/
theorem score_congr {h h' a a' : Fin 64 → EReal} (hh : ∀ o, h o = h' o) (ha : ∀ o, a o = a' o) : score h a = score h' a' := by
  rw [funext hh, funext ha]

/-- The parameters of one batch element. -/
structure Params where
  /-- The node features. -/
  x : Row → Fin 128 → EReal
  /-- Which pairs of rows are neighbours. -/
  edge : Row → Row → Prop
  /-- The first layer's projection weights, its two attention vectors and its bias. -/
  w0 : Fin 4 → Fin 128 → Fin 64 → EReal
  aS0 : Fin 4 → Fin 64 → EReal
  aD0 : Fin 4 → Fin 64 → EReal
  b0 : Fin 64 → EReal
  /-- The second layer's projection weights, its two attention vectors and its bias. -/
  w1 : Fin 4 → Fin 256 → Fin 64 → EReal
  aS1 : Fin 4 → Fin 64 → EReal
  aD1 : Fin 4 → Fin 64 → EReal
  b1 : Fin 64 → EReal

/-- The attention weights of a layer with projected rows `h` and attention vectors `aS`, `aD`. -/
def attention (edge : Row → Row → Prop) (h : Fin 4 → Row → Fin 64 → EReal) (aS aD : Fin 4 → Fin 64 → EReal)
    (k : Fin 4) (i j : Row) : ℝ :=
  weight (score (h k i) (aS k)).toReal (fun j => (score (h k j) (aD k)).toReal) (edge i) j

/-- The rows a layer gives. -/
def attend (edge : Row → Row → Prop) (h : Fin 4 → Row → Fin 64 → EReal) (aS aD : Fin 4 → Fin 64 → EReal)
    (b : Fin 64 → EReal) (k : Fin 4) (i : Row) (o : Fin 64) : EReal :=
  ∑ j, (attention edge h aS aD k i j : EReal) * h k j o + b o

namespace Params
variable (P : Params)

/-- The first layer's projected rows. -/
def h0 (k : Fin 4) (n : Row) (o : Fin 64) : EReal := proj (P.x n) (P.w0 k) o
/-- The first layer's result, its heads joined by columns. -/
def x1 (n : Row) (c : Fin 256) : EReal := attend P.edge P.h0 P.aS0 P.aD0 P.b0 (headOf c) n (colOf c)
/-- The second layer's projected rows. -/
def h1 (k : Fin 4) (n : Row) (o : Fin 64) : EReal := proj (P.x1 n) (P.w1 k) o
/-- The second layer's attention weights: the second result. -/
def weights (k : Fin 4) (i j : Row) : EReal := (attention P.edge P.h1 P.aS1 P.aD1 k i j : EReal)
/-- The second layer's result, its heads joined by columns: the first result. -/
def x2 (n : Row) (c : Fin 256) : EReal := attend P.edge P.h1 P.aS1 P.aD1 P.b1 (headOf c) n (colOf c)

/-- The attention vectors hold real numbers. -/
structure Finite : Prop where
  aS0 : ∀ k o, ∃ r : ℝ, P.aS0 k o = r
  aD0 : ∀ k o, ∃ r : ℝ, P.aD0 k o = r
  aS1 : ∀ k o, ∃ r : ℝ, P.aS1 k o = r
  aD1 : ∀ k o, ∃ r : ℝ, P.aD1 k o = r
end Params

/-- A real number among the extended reals is its own real part. -/
theorem coe_toReal_of {x : EReal} (h : ∃ r : ℝ, x = r) : ((x.toReal : ℝ) : EReal) = x := by
  obtain ⟨r, rfl⟩ := h; rw [EReal.toReal_coe]

/-- The greatest of real destination scores is real. -/
theorem topOf_real (d : Row → EReal) (hd : ∀ j, ∃ r : ℝ, d j = r) : ∃ r : ℝ, topOf d = r :=
  fold_max_real (fun x : Fin 1 × Fin 2048 => d x.2) fun x => hd x.2

section Contributions
variable (h : Fin 4 → Row → Fin 64 → EReal) (aS aD : Fin 4 → Fin 64 → EReal) (edge : Row → Row → Prop)
  (hS : ∀ k o, ∃ r : ℝ, aS k o = r) (hD : ∀ k o, ∃ r : ℝ, aD k o = r) (k : Fin 4) (i : Row) (e : Row → EReal)
  (he : ∀ j, edge i j → e j = pull (topOf fun j => score (h k j) (aD k)) (score (h k i) (aS k)) (score (h k j) (aD k)))
  (hn : ∀ j, ¬edge i j → e j = 0)
include hS hD he hn

/-- What the pairs of a row contribute in the kernel are their masses, all scaled alike. -/
theorem contributions : ∃ M : ℝ, ∀ j, e j =
    ((mass (score (h k i) (aS k)).toReal (fun j => (score (h k j) (aD k)).toReal) (edge i) j
      * Real.exp (-leaky ((score (h k i) (aS k)).toReal + M)) : ℝ) : EReal) := by
  have hd : ∀ j, ∃ r : ℝ, score (h k j) (aD k) = r := fun j => score_real _ _ (hD k)
  have hs : ∃ r : ℝ, score (h k i) (aS k) = r := score_real _ _ (hS k)
  obtain ⟨M, hM⟩ := topOf_real _ hd
  refine ⟨M, fun j => ?_⟩
  by_cases hj : edge i j
  · rw [he j hj, hM, ← coe_toReal_of hs, ← coe_toReal_of (hd j), pull_eq, EReal.toReal_coe]
    unfold mass
    rw [if_pos hj]
  · rw [hn j hj]
    unfold mass
    rw [if_neg hj, zero_mul, EReal.coe_zero]

/-- The kernel's weights of a row are its attention weights. -/
theorem rowWeight_attention (j : Row) : rowWeight e j = (attention edge h aS aD k i j : EReal) := by
  obtain ⟨M, hM⟩ := contributions h aS aD edge hS hD k i e he hn
  exact rowWeight_eq M _ _ _ e hM j

/-- The kernel's value of a row, its bias added, is the layer's. -/
theorem rowValue_attend (b : Fin 64 → EReal) (o : Fin 64) :
    rowValue e (fun j => h k j o) + b o = attend edge h aS aD b k i o := by
  obtain ⟨M, hM⟩ := contributions h aS aD edge hS hD k i e he hn
  exact congrArg (· + b o) (rowValue_eq M _ _ _ e hM fun j => h k j o)
end Contributions

end Cert.Gat
end
-- ==== Proof.Value.Read0.lean ====
module

public import proofs.«01_k».proof.Proof.Value.Words
public import proofs.«01_k».proof.Proof.Value.Spec
public import Idealize.ShloMosaic.Lib.Pointwise

/-! # The first call's blocks, entry by entry

What the projection step carries and what an attention step stores, each read at one entry over the extended reals. -/

@[expose] public section
set_option maxRecDepth 16384
noncomputable section
namespace Cert.KernelIdeal.Gat
open Cert.KernelIdeal Cert.KernelIdeal.Gen
open Idealize.ShloMosaic
open Cert.Gat

/-- The projected rows as an array. -/
abbrev arrH (x : Vec Ideal S1x2048x128 .f32) (w : Vec Ideal S4x128x64 .f32) : Vec Ideal S4x2048x64 .f32 :=
  fun y : S4x2048x64.Idx => proj (fun c => x (ix3 0 (y 1) c)) (fun c o => w (ix3 (y 0) c o)) (y 2)

/-- The source scores as an array. -/
abbrev arrS (x : Vec Ideal S1x2048x128 .f32) (w : Vec Ideal S4x128x64 .f32) (a : Vec Ideal S4x64x1 .f32) : Vec Ideal S4x2048x1 .f32 :=
  fun y : S4x2048x1.Idx => score (fun o => arrH x w (ix3 (y 0) (y 1) o)) (fun o => a (ix3 (y 0) o 0))

/-- The destination scores as an array. -/
abbrev arrD (x : Vec Ideal S1x2048x128 .f32) (w : Vec Ideal S4x128x64 .f32) (a : Vec Ideal S4x64x1 .f32) : Vec Ideal S4x1x2048 .f32 :=
  fun y : S4x1x2048.Idx => score (fun o => arrH x w (ix3 (y 0) (y 2) o)) (fun o => a (ix3 (y 0) o 0))

/-- The carried projected rows are the products. -/
theorem projH_read (x : Vec Ideal S1x2048x128 .f32) (w : Vec Ideal S4x128x64 .f32) : projH x w = arrH x w := by
  funext y
  unfold projH
  refine View.canon_apply_of_pieces (arrH x w) _ ?_ _ (cover_projH ..)
  simp only [List.forall_mem_cons, List.not_mem_nil, false_implies, implies_true, and_true]
  refine ⟨?_, ?_, ?_, ?_⟩ <;>
  · intro y
    obtain ⟨i, n, o, rfl⟩ : ∃ i n o, y = ix3 (n0 := 1) (n1 := 2048) (n2 := 64) i n o := ⟨_, _, _, eq_ix3 y⟩
    obtain rfl : i = 0 := Subsingleton.elim _ _
    show _ = View.ld (arrH x w) _ _
    unfold_payloads
    pointwise [dot_S2048x128_S128x64_S2048x64_1_0_0_1_n_n]
    rfl

/-- The carried source scores are the scores of the projected rows. -/
theorem projS_read (x : Vec Ideal S1x2048x128 .f32) (w : Vec Ideal S4x128x64 .f32) (a : Vec Ideal S4x64x1 .f32) :
    projS x w a = arrS x w a := by
  funext y
  unfold projS
  refine View.canon_apply_of_pieces (arrS x w a) _ ?_ _ (cover_projS ..)
  simp only [List.forall_mem_cons, List.not_mem_nil, false_implies, implies_true, and_true]
  refine ⟨?_, ?_, ?_, ?_⟩ <;>
  · intro y
    obtain ⟨i, n, o, rfl⟩ : ∃ i n o, y = ix3 (n0 := 1) (n1 := 2048) (n2 := 1) i n o := ⟨_, _, _, eq_ix3 y⟩
    obtain rfl : i = 0 := Subsingleton.elim _ _
    show _ = View.ld (arrS x w a) _ _
    unfold_payloads
    pointwise [dot_S2048x128_S128x64_S2048x64_1_0_0_1_n_n, dot_S2048x64_S64x1_S2048x1_1_0_0_1_n_n]
    rfl

/-- The carried destination scores are the scores of the projected rows. -/
theorem projD_read (x : Vec Ideal S1x2048x128 .f32) (w : Vec Ideal S4x128x64 .f32) (a : Vec Ideal S4x64x1 .f32) :
    projD x w a = arrD x w a := by
  funext y
  unfold projD
  refine View.canon_apply_of_pieces (arrD x w a) _ ?_ _ (cover_projD ..)
  simp only [List.forall_mem_cons, List.not_mem_nil, false_implies, implies_true, and_true]
  refine ⟨?_, ?_, ?_, ?_⟩ <;>
  · intro y
    obtain ⟨i, n, o, rfl⟩ : ∃ i n o, y = ix3 (n0 := 1) (n1 := 1) (n2 := 2048) i n o := ⟨_, _, _, eq_ix3 y⟩
    obtain rfl : i = 0 := Subsingleton.elim _ _
    obtain rfl : n = 0 := Subsingleton.elim _ _
    show _ = View.ld (arrD x w a) _ _
    unfold_payloads
    pointwise [dot_S2048x128_S128x64_S2048x64_1_0_0_1_n_n]
    refine Finset.sum_congr rfl fun o _ => ?_
    exact mul_comm _ _

/-- One entry of a head's attention output, its bias added. -/
def headAt (adj : Vec Ideal S1x512x2048 .f32) (b : Vec Ideal S1x64 .f32) (h : Vec Ideal S4x2048x64 .f32)
    (u : Fin 4 → Vec Ideal S1x512x1 .f32) (d : Vec Ideal S4x1x2048 .f32) (k : Fin 4) (r : Fin 512) (o : Fin 64) : EReal :=
  rowValue (fun j => pull (topOf fun j => d (ix3 k 0 j)) (u k (ix3 0 r 0)) (d (ix3 k 0 j)) * adj (ix3 0 r j))
    (fun j => h (ix3 k j o)) + b (ix2 0 o)

section Heads
variable (adj : Vec Ideal S1x512x2048 .f32) (b : Vec Ideal S1x64 .f32) (h : Vec Ideal S4x2048x64 .f32)
  (u : Fin 4 → Vec Ideal S1x512x1 .f32) (d : Vec Ideal S4x1x2048 .f32) (r : Fin 512) (o : Fin 64)

/-- Head 0's output. -/
theorem head0_read : head0 adj b h u d (ix2 r o) = headAt adj b h u d 0 r o := by
  unfold head0
  unfold_payloads
  pointwise [dot_S512x2048_S2048x65_S512x65_1_0_0_1_n_n]
  rw [word_rows, named_rest, named_neg_rest, word_slope, word_low]
  rfl
/-- Head 1's output. -/
theorem head1_read : head1 adj b h u d (ix2 r o) = headAt adj b h u d 1 r o := by
  unfold head1
  unfold_payloads
  pointwise [dot_S512x2048_S2048x65_S512x65_1_0_0_1_n_n]
  rw [word_rows, named_rest, named_neg_rest, word_slope, word_low]
  rfl
/-- Head 2's output. -/
theorem head2_read : head2 adj b h u d (ix2 r o) = headAt adj b h u d 2 r o := by
  unfold head2
  unfold_payloads
  pointwise [dot_S512x2048_S2048x65_S512x65_1_0_0_1_n_n]
  rw [word_rows, named_rest, named_neg_rest, word_slope, word_low]
  rfl
/-- Head 3's output. -/
theorem head3_read : head3 adj b h u d (ix2 r o) + b (ix2 0 o) = headAt adj b h u d 3 r o := by
  unfold head3
  unfold_payloads
  pointwise [dot_S512x2048_S2048x65_S512x65_1_0_0_1_n_n]
  rw [word_rows, named_rest, named_neg_rest, word_slope, word_low]
  rfl
end Heads

section Steps
variable (adj : Vec Ideal S1x512x2048 .f32) (b : Vec Ideal S1x64 .f32) (h : Vec Ideal S4x2048x64 .f32)
  (u : Fin 4 → Vec Ideal S1x512x1 .f32) (d : Vec Ideal S4x1x2048 .f32)

/-- The four heads joined by columns: column `c` is column `c % 64` of head `c / 64`. -/
theorem join_read (r : Fin 512) (c : Fin 256) :
    (if h0 : (c : ℕ) < 64 then head0 adj b h u d (ix2 r ⟨c, h0⟩)
      else if h1 : (c : ℕ) - 64 < 64 then head1 adj b h u d (ix2 r ⟨c - 64, h1⟩)
      else if h2 : (c : ℕ) - 64 - 64 < 64 then head2 adj b h u d (ix2 r ⟨c - 64 - 64, h2⟩)
      else head3 adj b h u d (ix2 r ⟨c - 64 - 64 - 64, by omega⟩) + b (ix2 0 ⟨c - 64 - 64 - 64, by omega⟩))
    = headAt adj b h u d (headOf c) r (colOf c) := by
  have key : ∀ (k : Fin 4) (o : Fin 64), (c : ℕ) = 64 * k + o → headAt adj b h u d (headOf c) r (colOf c) = headAt adj b h u d k r o := by
    intro k o hc
    have hk : headOf c = k := Fin.ext (by simp only [headOf]; omega)
    have ho : colOf c = o := Fin.ext (by simp only [colOf]; omega)
    rw [hk, ho]
  split_ifs with h0 h1 h2
  · rw [head0_read, key 0 ⟨c, h0⟩ (by simp)]
  · rw [head1_read, key 1 ⟨c - 64, h1⟩ (by simp; omega)]
  · rw [head2_read, key 2 ⟨c - 64 - 64, h2⟩ (by simp; omega)]
  · rw [head3_read, key 3 ⟨c - 64 - 64 - 64, by omega⟩ (by simp; omega)]

/-- The four heads side by side. -/
theorem allHeads_read (r : Fin 512) (c : Fin 256) : allHeads adj b h u d (ix2 r c) = headAt adj b h u d (headOf c) r (colOf c) := by
  unfold allHeads
  unfold_payloads
  pointwise
  exact join_read adj b h u d r c

/-- The second layer's projected rows, as the block of one step. -/
abbrev blkH (w : Vec Ideal S4x256x64 .f32) : Vec Ideal S1x4x512x64 .f32 :=
  fun y : S1x4x512x64.Idx => proj (fun c => headAt adj b h u d (headOf c) (y 2) (colOf c)) (fun c o => w (ix3 (y 1) c o)) (y 3)

/-- The second layer's source scores, as the block of one step. -/
abbrev blkS (w : Vec Ideal S4x256x64 .f32) (a : Vec Ideal S4x64x1 .f32) : Vec Ideal S1x4x512x1 .f32 :=
  fun y : S1x4x512x1.Idx => score (fun o => blkH adj b h u d w (ix4 0 (y 1) (y 2) o)) (fun o => a (ix3 (y 1) o 0))

/-- The second layer's destination scores, as the block of one step. -/
abbrev blkD (w : Vec Ideal S4x256x64 .f32) (a : Vec Ideal S4x64x1 .f32) : Vec Ideal S1x4x1x512 .f32 :=
  fun y : S1x4x1x512.Idx => score (fun o => blkH adj b h u d w (ix4 0 (y 1) (y 3) o)) (fun o => a (ix3 (y 1) o 0))

/-- The stored projected rows are the products. -/
theorem stepH_read (w : Vec Ideal S4x256x64 .f32) : stepH adj b w h u d = blkH adj b h u d w := by
  funext y
  unfold stepH
  refine View.canon_apply_of_pieces (blkH adj b h u d w) _ ?_ _ (cover_stepH ..)
  simp only [List.forall_mem_cons, List.not_mem_nil, false_implies, implies_true, and_true]
  refine ⟨?_, ?_, ?_, ?_⟩ <;>
  · intro y
    obtain ⟨i, k, n, o, rfl⟩ : ∃ i k n o, y = ix4 (n0 := 1) (n1 := 1) (n2 := 512) (n3 := 64) i k n o := ⟨_, _, _, _, eq_ix4 y⟩
    obtain rfl : i = 0 := Subsingleton.elim _ _
    obtain rfl : k = 0 := Subsingleton.elim _ _
    show _ = View.ld (blkH adj b h u d w) _ _
    unfold_payloads
    pointwise [dot_S512x256_S256x64_S512x64_1_0_0_1_n_n]
    simp only [allHeads_read, join_read]
    rfl

/-- The stored source scores are the scores of the projected rows. -/
theorem stepS_read (w : Vec Ideal S4x256x64 .f32) (a : Vec Ideal S4x64x1 .f32) : stepS adj b w a h u d = blkS adj b h u d w a := by
  funext y
  unfold stepS
  refine View.canon_apply_of_pieces (blkS adj b h u d w a) _ ?_ _ (cover_stepS ..)
  simp only [List.forall_mem_cons, List.not_mem_nil, false_implies, implies_true, and_true]
  refine ⟨?_, ?_, ?_, ?_⟩ <;>
  · intro y
    obtain ⟨i, k, n, o, rfl⟩ : ∃ i k n o, y = ix4 (n0 := 1) (n1 := 1) (n2 := 512) (n3 := 1) i k n o := ⟨_, _, _, _, eq_ix4 y⟩
    obtain rfl : i = 0 := Subsingleton.elim _ _
    obtain rfl : k = 0 := Subsingleton.elim _ _
    obtain rfl : o = 0 := Subsingleton.elim _ _
    show _ = View.ld (blkS adj b h u d w a) _ _
    unfold_payloads
    pointwise [dot_S512x256_S256x64_S512x64_1_0_0_1_n_n, dot_S512x64_S64x1_S512x1_1_0_0_1_n_n]
    simp only [allHeads_read, join_read]
    rfl

/-- The stored destination scores are the scores of the projected rows. -/
theorem stepD_read (w : Vec Ideal S4x256x64 .f32) (a : Vec Ideal S4x64x1 .f32) : stepD adj b w a h u d = blkD adj b h u d w a := by
  funext y
  unfold stepD
  refine View.canon_apply_of_pieces (blkD adj b h u d w a) _ ?_ _ (cover_stepD ..)
  simp only [List.forall_mem_cons, List.not_mem_nil, false_implies, implies_true, and_true]
  refine ⟨?_, ?_, ?_, ?_⟩ <;>
  · intro y
    obtain ⟨i, k, n, o, rfl⟩ : ∃ i k n o, y = ix4 (n0 := 1) (n1 := 1) (n2 := 1) (n3 := 512) i k n o := ⟨_, _, _, _, eq_ix4 y⟩
    obtain rfl : i = 0 := Subsingleton.elim _ _
    obtain rfl : k = 0 := Subsingleton.elim _ _
    obtain rfl : n = 0 := Subsingleton.elim _ _
    show _ = View.ld (blkD adj b h u d w a) _ _
    unfold_payloads
    pointwise [dot_S512x256_S256x64_S512x64_1_0_0_1_n_n]
    simp only [allHeads_read, join_read]
    refine Finset.sum_congr rfl fun o _ => ?_
    exact mul_comm _ _

/-- The adjacency as the block of one step, as small integers. -/
abbrev blkAdj : Vec Ideal S1x512x2048 .i8 := fun y : S1x512x2048.Idx => Ideal.fptosi 8 (adj y)

/-- The stored adjacency is the block's, as integers. -/
theorem stepAdj_read : stepAdj adj = blkAdj adj := by
  funext y
  unfold stepAdj
  refine View.canon_apply_of_pieces (blkAdj adj) _ ?_ _ (cover_stepAdj (F := Ideal) ..)
  simp only [List.forall_mem_cons, List.not_mem_nil, false_implies, implies_true, and_true]
  intro y
  obtain ⟨i, n, o, rfl⟩ : ∃ i n o, y = ix3 (n0 := 1) (n1 := 512) (n2 := 2048) i n o := ⟨_, _, _, eq_ix3 y⟩
  obtain rfl : i = 0 := Subsingleton.elim _ _
  show _ = View.ld (blkAdj adj) _ _
  unfold_payloads
  pointwise
  rfl
end Steps

end Cert.KernelIdeal.Gat
end
-- ==== Proof.Value.Blocks0.lean ====
module

public import proofs.«01_k».proof.Proof.Ideal.Run
public import proofs.«01_k».proof.Proof.Value.Read0
public import Idealize.ShloMosaic.Lib.Pipeline.ValueKit

/-! # The first call's blocks at the arguments

The parameters the program's arguments hold, and what every attention step of the first call stores, in their terms. -/

@[expose] public section
set_option maxRecDepth 16384
noncomputable section
namespace Cert.KernelIdeal.Gat
open Cert.KernelIdeal Cert.KernelIdeal.Gen
open Idealize.ShloMosaic Idealize.ShloMosaic.TcCoe
open Cert.Gat

variable (m : (ℓ : Loc nD τ sig) → Buf (Elt Ideal) ℓ) (c : Dev nD)

/-! ## The arguments -/

abbrev argX : Vec Ideal S4x2048x128 .f32 := m ((c : Thread nD τ).loc main_arg0)
abbrev argAdj : Vec Ideal S4x2048x2048 .f32 := m ((c : Thread nD τ).loc main_arg1)
abbrev argW0 : Vec Ideal S4x128x64 .f32 := m ((c : Thread nD τ).loc main_arg2)
abbrev argS0 : Vec Ideal S4x64x1 .f32 := m ((c : Thread nD τ).loc main_arg3)
abbrev argD0 : Vec Ideal S4x64x1 .f32 := m ((c : Thread nD τ).loc main_arg4)
abbrev argB0 : Vec Ideal S64 .f32 := m ((c : Thread nD τ).loc main_arg5)
abbrev argW1 : Vec Ideal S4x256x64 .f32 := m ((c : Thread nD τ).loc main_arg6)
abbrev argS1 : Vec Ideal S4x64x1 .f32 := m ((c : Thread nD τ).loc main_arg7)
abbrev argD1 : Vec Ideal S4x64x1 .f32 := m ((c : Thread nD τ).loc main_arg8)
abbrev argB1 : Vec Ideal S64 .f32 := m ((c : Thread nD τ).loc main_arg9)

/-- The parameters of batch element `b`. -/
def params (b : Fin 4) : Params where
  x n i := argX m c (ix3 b n i)
  edge i j := argAdj m c (ix3 b i j) ≠ 0
  w0 k i o := argW0 m c (ix3 k i o)
  aS0 k o := argS0 m c (ix3 k o 0)
  aD0 k o := argD0 m c (ix3 k o 0)
  b0 o := argB0 m c (ix1 o)
  w1 k i o := argW1 m c (ix3 k i o)
  aS1 k o := argS1 m c (ix3 k o 0)
  aD1 k o := argD1 m c (ix3 k o 0)
  b1 o := argB1 m c (ix1 o)

/-! ## Where the blocks lie -/

/-- Which block the first call's window of the features shows at a step. -/
theorem at0_0 : ∀ t : Fin cfg0.N, win0_0.index t = ![t.val / 5, 0, 0] := (by decide +kernel : ∀ t : Fin grid0.N, _)
/-- Which block the first call's window of the first layer's projection weights shows at a step. -/
theorem at0_1 : ∀ t : Fin cfg0.N, win0_1.index t = ![0, 0, 0] := (by decide +kernel : ∀ t : Fin grid0.N, _)
/-- Which block the first call's window of the first layer's source vectors shows at a step. -/
theorem at0_2 : ∀ t : Fin cfg0.N, win0_2.index t = ![0, 0, 0] := (by decide +kernel : ∀ t : Fin grid0.N, _)
/-- Which block the first call's window of the first layer's destination vectors shows at a step. -/
theorem at0_3 : ∀ t : Fin cfg0.N, win0_3.index t = ![0, 0, 0] := (by decide +kernel : ∀ t : Fin grid0.N, _)
/-- Which block the first call's window of the adjacency shows at a step. -/
theorem at0_4 : ∀ t : Fin cfg0.N, win0_4.index t = ![t.val / 5, t.val % 5 - 1, 0] := (by decide +kernel : ∀ t : Fin grid0.N, _)
/-- Which block the first call's window of the bias shows at a step. -/
theorem at0_5 : ∀ t : Fin cfg0.N, win0_5.index t = ![0, 0] := (by decide +kernel : ∀ t : Fin grid0.N, _)
/-- Which block the first call's window of the second layer's projection weights shows at a step. -/
theorem at0_6 : ∀ t : Fin cfg0.N, win0_6.index t = ![0, 0, 0] := (by decide +kernel : ∀ t : Fin grid0.N, _)
/-- Which block the first call's window of the second layer's source vectors shows at a step. -/
theorem at0_7 : ∀ t : Fin cfg0.N, win0_7.index t = ![0, 0, 0] := (by decide +kernel : ∀ t : Fin grid0.N, _)
/-- Which block the first call's window of the second layer's destination vectors shows at a step. -/
theorem at0_8 : ∀ t : Fin cfg0.N, win0_8.index t = ![0, 0, 0] := (by decide +kernel : ∀ t : Fin grid0.N, _)

/-- The batch element a point works on. -/
def batch0 (t : Fin cfg0.N) : Fin 4 := ⟨t.val / 5, by have h : t.val < 20 := t.isLt; omega⟩
/-- The row of the array that row `r` of a point's block is. -/
def row0 (t : Fin cfg0.N) (r : Fin 512) : Row := ⟨(t.val % 5 - 1) * 512 + r, by omega⟩

/-- The reshaped bias of the first layer. -/
theorem bias0 (o : Fin 64) : (U1 m c main_v0 : Vec Ideal S1x64 .f32) (ix2 0 o) = argB0 m c (ix1 o) := by
  have h : (U1 m c main_v0 : Vec Ideal S1x64 .f32) = shapeCast S1x64 (argB0 m c) shapeCasts_S64_S1x64 := by
    show StableHlo.after hostOps0 (C0 m c) main_v0 = _
    unfold hostOps0
    after_results
    rfl
  rw [h]
  pointwise

/-! ## The input blocks -/

/-- An entry of the first call's block of the features, in terms of the parameters. -/
theorem blk0_0 (t : Fin cfg0.N) (n : Row) (i : Fin 128) :
    (iblk0 (U1 m) c 0 t : Vec Ideal S1x2048x128 .f32) (ix3 0 n i) = argX m c (ix3 (batch0 t) n i) := by
  show (U1 m c main_arg0 : Vec Ideal S4x2048x128 .f32) _ = _
  rw [show U1 m c main_arg0 = _ from C1_args m c main_arg0 (by simp)]
  refine congrArg (argX m c) ?_
  blk_ext [at0_0, batch0]
/-- An entry of the first call's block of the first layer's projection weights, in terms of the parameters. -/
theorem blk0_1 (t : Fin cfg0.N) (k : Fin 4) (i : Fin 128) (o : Fin 64) :
    (iblk0 (U1 m) c 1 t : Vec Ideal S4x128x64 .f32) (ix3 k i o) = argW0 m c (ix3 k i o) := by
  show (U1 m c main_arg2 : Vec Ideal S4x128x64 .f32) _ = _
  rw [show U1 m c main_arg2 = _ from C1_args m c main_arg2 (by simp)]
  refine congrArg (argW0 m c) ?_
  blk_ext [at0_1]
/-- An entry of the first call's block of the first layer's source vectors, in terms of the parameters. -/
theorem blk0_2 (t : Fin cfg0.N) (k : Fin 4) (o : Fin 64) (z : Fin 1) :
    (iblk0 (U1 m) c 2 t : Vec Ideal S4x64x1 .f32) (ix3 k o z) = argS0 m c (ix3 k o z) := by
  show (U1 m c main_arg3 : Vec Ideal S4x64x1 .f32) _ = _
  rw [show U1 m c main_arg3 = _ from C1_args m c main_arg3 (by simp)]
  refine congrArg (argS0 m c) ?_
  blk_ext [at0_2]
/-- An entry of the first call's block of the first layer's destination vectors, in terms of the parameters. -/
theorem blk0_3 (t : Fin cfg0.N) (k : Fin 4) (o : Fin 64) (z : Fin 1) :
    (iblk0 (U1 m) c 3 t : Vec Ideal S4x64x1 .f32) (ix3 k o z) = argD0 m c (ix3 k o z) := by
  show (U1 m c main_arg4 : Vec Ideal S4x64x1 .f32) _ = _
  rw [show U1 m c main_arg4 = _ from C1_args m c main_arg4 (by simp)]
  refine congrArg (argD0 m c) ?_
  blk_ext [at0_3]
/-- An entry of the first call's block of the adjacency, in terms of the parameters. -/
theorem blk0_4 (t : Fin cfg0.N) (r : Fin 512) (j : Row) :
    (iblk0 (U1 m) c 4 t : Vec Ideal S1x512x2048 .f32) (ix3 0 r j) = argAdj m c (ix3 (batch0 t) (row0 t r) j) := by
  show (U1 m c main_arg1 : Vec Ideal S4x2048x2048 .f32) _ = _
  rw [show U1 m c main_arg1 = _ from C1_args m c main_arg1 (by simp)]
  refine congrArg (argAdj m c) ?_
  blk_ext [at0_4, batch0, row0]
/-- An entry of the first call's block of the bias, in terms of the parameters. -/
theorem blk0_5 (t : Fin cfg0.N) (o : Fin 64) :
    (iblk0 (U1 m) c 5 t : Vec Ideal S1x64 .f32) (ix2 0 o) = argB0 m c (ix1 o) := by
  rw [← bias0 m c o]
  show (U1 m c main_v0 : Vec Ideal S1x64 .f32) _ = _
  refine congrArg (U1 m c main_v0 : Vec Ideal S1x64 .f32) ?_
  blk_ext [at0_5]
/-- An entry of the first call's block of the second layer's projection weights, in terms of the parameters. -/
theorem blk0_6 (t : Fin cfg0.N) (k : Fin 4) (i : Fin 256) (o : Fin 64) :
    (iblk0 (U1 m) c 6 t : Vec Ideal S4x256x64 .f32) (ix3 k i o) = argW1 m c (ix3 k i o) := by
  show (U1 m c main_arg6 : Vec Ideal S4x256x64 .f32) _ = _
  rw [show U1 m c main_arg6 = _ from C1_args m c main_arg6 (by simp)]
  refine congrArg (argW1 m c) ?_
  blk_ext [at0_6]
/-- An entry of the first call's block of the second layer's source vectors, in terms of the parameters. -/
theorem blk0_7 (t : Fin cfg0.N) (k : Fin 4) (o : Fin 64) (z : Fin 1) :
    (iblk0 (U1 m) c 7 t : Vec Ideal S4x64x1 .f32) (ix3 k o z) = argS1 m c (ix3 k o z) := by
  show (U1 m c main_arg7 : Vec Ideal S4x64x1 .f32) _ = _
  rw [show U1 m c main_arg7 = _ from C1_args m c main_arg7 (by simp)]
  refine congrArg (argS1 m c) ?_
  blk_ext [at0_7]
/-- An entry of the first call's block of the second layer's destination vectors, in terms of the parameters. -/
theorem blk0_8 (t : Fin cfg0.N) (k : Fin 4) (o : Fin 64) (z : Fin 1) :
    (iblk0 (U1 m) c 8 t : Vec Ideal S4x64x1 .f32) (ix3 k o z) = argD1 m c (ix3 k o z) := by
  show (U1 m c main_arg8 : Vec Ideal S4x64x1 .f32) _ = _
  rw [show U1 m c main_arg8 = _ from C1_args m c main_arg8 (by simp)]
  refine congrArg (argD1 m c) ?_
  blk_ext [at0_8]

/-! ## The carried buffers -/

/-- The carried projected rows. -/
theorem curH_eq (t : Fin cfg0.N) (k : Fin 4) (n : Row) (o : Fin 64) :
    curH (U1 m) c t (ix3 k n o) = (params m c (batch0 t)).h0 k n o := by
  unfold curH
  rw [projH_read]
  exact proj_congr (blk0_0 m c t n) (blk0_1 m c t k) o
/-- The carried source scores. -/
theorem curS_eq (t : Fin cfg0.N) (k : Fin 4) (n : Row) :
    curS (U1 m) c t (ix3 k n 0) = score ((params m c (batch0 t)).h0 k n) ((params m c (batch0 t)).aS0 k) := by
  unfold curS
  rw [projS_read]
  exact score_congr (fun o => proj_congr (blk0_0 m c t n) (blk0_1 m c t k) o) (fun o => blk0_2 m c t k o 0)
/-- The carried destination scores. -/
theorem curD_eq (t : Fin cfg0.N) (k : Fin 4) (n : Row) :
    curD (U1 m) c t (ix3 k 0 n) = score ((params m c (batch0 t)).h0 k n) ((params m c (batch0 t)).aD0 k) := by
  unfold curD
  rw [projD_read]
  exact score_congr (fun o => proj_congr (blk0_0 m c t n) (blk0_1 m c t k) o) (fun o => blk0_3 m c t k o 0)

/-! ## The rows a step works on -/

/-- Where an attention step reads head 0's source scores of its rows. -/
theorem off0_1 : ∀ t : Fin cfg0.N, t.val % 5 ≠ 0 → k0_off1 (grid0.coords t) = ![0, (t.val % 5 - 1) * 512, 0] := (by decide +kernel : ∀ t : Fin grid0.N, _)
/-- Where an attention step reads head 1's source scores of its rows. -/
theorem off0_2 : ∀ t : Fin cfg0.N, t.val % 5 ≠ 0 → k0_off2 (grid0.coords t) = ![1, (t.val % 5 - 1) * 512, 0] := (by decide +kernel : ∀ t : Fin grid0.N, _)
/-- Where an attention step reads head 2's source scores of its rows. -/
theorem off0_3 : ∀ t : Fin cfg0.N, t.val % 5 ≠ 0 → k0_off3 (grid0.coords t) = ![2, (t.val % 5 - 1) * 512, 0] := (by decide +kernel : ∀ t : Fin grid0.N, _)
/-- Where an attention step reads head 3's source scores of its rows. -/
theorem off0_4 : ∀ t : Fin cfg0.N, t.val % 5 ≠ 0 → k0_off4 (grid0.coords t) = ![3, (t.val % 5 - 1) * 512, 0] := (by decide +kernel : ∀ t : Fin grid0.N, _)

/-- A row of a block of source scores loaded at row `q` of head `k`. -/
theorem ld_rows (s : Vec Ideal S4x2048x1 .f32) (off : Fin 3 → ℕ) (inb) (k : Fin 4) (q : ℕ) (h : off = ![(k : ℕ), q, 0])
    (r : Fin 512) (n : Row) (hn : (n : ℕ) = q + r) :
    View.ld s (Rect.unit (s := S4x2048x1) off S1x512x1.size inb) (ix3 0 r 0) = s (ix3 k n 0) := by
  subst h
  refine congrArg s ?_
  funext a
  refine Fin.ext ?_
  refine (ValueKit.rect_emb_unit_val _ _ _ _ a).trans ?_
  fin_cases a
  · rfl
  · exact hn.symm
  · rfl

/-- The source scores a step reads are the carried ones, at its rows. -/
theorem rowsOf_eq (t : Fin cfg0.N) (ht : t.val % 5 ≠ 0) (s : Vec Ideal S4x2048x1 .f32) (k : Fin 4) (r : Fin 512) :
    rowsOf (grid0.coords t) s k (ix3 0 r 0) = s (ix3 k (row0 t r) 0) := by
  unfold rowsOf
  rw [dif_pos ((attn_iff t).2 ht)]
  fin_cases k
  · exact ld_rows s _ _ 0 _ (off0_1 t ht) r _ rfl
  · exact ld_rows s _ _ 1 _ (off0_2 t ht) r _ rfl
  · exact ld_rows s _ _ 2 _ (off0_3 t ht) r _ rfl
  · exact ld_rows s _ _ 3 _ (off0_4 t ht) r _ rfl

/-! ## What a step stores -/

/-- The adjacency holds zeros and ones. -/
abbrev Binary : Prop := ∀ b i j, argAdj m c (ix3 b i j) = 0 ∨ argAdj m c (ix3 b i j) = 1

section Step
variable (hadj : Binary m c) (hfin : ∀ b, (params m c b).Finite) (t : Fin cfg0.N) (ht : t.val % 5 ≠ 0)
include hadj hfin ht

/-- A head's output at a row of a step's block is the first layer's. -/
theorem headAt_eq (k : Fin 4) (r : Fin 512) (o : Fin 64) :
    headAt (iblk0 (U1 m) c 4 t) (iblk0 (U1 m) c 5 t) (curH (U1 m) c t) (rowsOf (grid0.coords t) (curS (U1 m) c t)) (curD (U1 m) c t) k r o
      = attend (params m c (batch0 t)).edge (params m c (batch0 t)).h0 (params m c (batch0 t)).aS0 (params m c (batch0 t)).aD0
          (params m c (batch0 t)).b0 k (row0 t r) o := by
  unfold headAt
  rw [rowsOf_eq t ht, curS_eq, blk0_5]
  simp only [curH_eq, curD_eq, blk0_4]
  refine rowValue_attend (params m c (batch0 t)).h0 _ _ (params m c (batch0 t)).edge (hfin _).aS0 (hfin _).aD0 k (row0 t r) _ ?_ ?_
    (params m c (batch0 t)).b0 o
  · intro j hj
    rw [(hadj (batch0 t) (row0 t r) j).resolve_left hj, mul_one]
  · intro j hj
    rw [not_not.1 hj, mul_zero]

/-- The second layer's projected rows a step stores. -/
theorem blkH_eq (k : Fin 4) (r : Fin 512) (o : Fin 64) :
    stepH (iblk0 (U1 m) c 4 t) (iblk0 (U1 m) c 5 t) (iblk0 (U1 m) c 6 t) (curH (U1 m) c t) (rowsOf (grid0.coords t) (curS (U1 m) c t)) (curD (U1 m) c t) (ix4 0 k r o)
      = (params m c (batch0 t)).h1 k (row0 t r) o := by
  rw [stepH_read]
  exact proj_congr (fun i => headAt_eq m c hadj hfin t ht (headOf i) r (colOf i)) (blk0_6 m c t k) o

/-- The second layer's source scores a step stores. -/
theorem blkS_eq (k : Fin 4) (r : Fin 512) :
    stepS (iblk0 (U1 m) c 4 t) (iblk0 (U1 m) c 5 t) (iblk0 (U1 m) c 6 t) (iblk0 (U1 m) c 7 t) (curH (U1 m) c t) (rowsOf (grid0.coords t) (curS (U1 m) c t)) (curD (U1 m) c t) (ix4 0 k r 0)
      = score ((params m c (batch0 t)).h1 k (row0 t r)) ((params m c (batch0 t)).aS1 k) := by
  rw [stepS_read]
  exact score_congr (fun o => proj_congr (fun i => headAt_eq m c hadj hfin t ht (headOf i) r (colOf i)) (blk0_6 m c t k) o)
    (fun o => blk0_7 m c t k o 0)

/-- The second layer's destination scores a step stores. -/
theorem blkD_eq (k : Fin 4) (r : Fin 512) :
    stepD (iblk0 (U1 m) c 4 t) (iblk0 (U1 m) c 5 t) (iblk0 (U1 m) c 6 t) (iblk0 (U1 m) c 8 t) (curH (U1 m) c t) (rowsOf (grid0.coords t) (curS (U1 m) c t)) (curD (U1 m) c t) (ix4 0 k 0 r)
      = score ((params m c (batch0 t)).h1 k (row0 t r)) ((params m c (batch0 t)).aD1 k) := by
  rw [stepD_read]
  exact score_congr (fun o => proj_congr (fun i => headAt_eq m c hadj hfin t ht (headOf i) r (colOf i)) (blk0_6 m c t k) o)
    (fun o => blk0_8 m c t k o 0)

end Step

/-- The adjacency a step stores. -/
theorem blkAdj_eq (t : Fin cfg0.N) (r : Fin 512) (j : Row) :
    stepAdj (iblk0 (U1 m) c 4 t) (ix3 0 r j) = Ideal.fptosi 8 (argAdj m c (ix3 (batch0 t) (row0 t r) j)) := by
  rw [stepAdj_read]
  exact congrArg (Ideal.fptosi 8) (blk0_4 m c t r j)

end Cert.KernelIdeal.Gat
end
-- ==== Proof.Value.Left0.lean ====
module

public import proofs.«01_k».proof.Proof.Value.Blocks0

/-! # What the first call leaves

Its four result arrays, whole: the adjacency as integers, the second layer's projected rows and their scores. -/

@[expose] public section
set_option maxRecDepth 16384
noncomputable section
namespace Cert.KernelIdeal.Gat
open Cert.KernelIdeal Cert.KernelIdeal.Gen
open Idealize.ShloMosaic Idealize.ShloMosaic.TcCoe
open Idealize.ShloMosaic.Pipeline (Dat)
open Cert.Gat

variable (m : (ℓ : Loc nD τ sig) → Buf (Elt Ideal) ℓ) (c : Dev nD)

/-! ## Where the result blocks lie, at the points that write them -/

/-- Which block the first call's window of the adjacency as int8 shows at a step. -/
theorem at0_9 : ∀ t : Fin cfg0.N, t.val % 5 ≠ 0 → win0_9.index t = ![t.val / 5, t.val % 5 - 1, 0] := (by decide +kernel : ∀ t : Fin grid0.N, _)
/-- Which block the first call's window of the second layer's projected rows shows at a step. -/
theorem at0_10 : ∀ t : Fin cfg0.N, t.val % 5 ≠ 0 → win0_10.index t = ![t.val / 5, 0, t.val % 5 - 1, 0] := (by decide +kernel : ∀ t : Fin grid0.N, _)
/-- Which block the first call's window of the second layer's source scores shows at a step. -/
theorem at0_11 : ∀ t : Fin cfg0.N, t.val % 5 ≠ 0 → win0_11.index t = ![t.val / 5, 0, t.val % 5 - 1, 0] := (by decide +kernel : ∀ t : Fin grid0.N, _)
/-- Which block the first call's window of the second layer's destination scores shows at a step. -/
theorem at0_12 : ∀ t : Fin cfg0.N, t.val % 5 ≠ 0 → win0_12.index t = ![t.val / 5, 0, 0, t.val % 5 - 1] := (by decide +kernel : ∀ t : Fin grid0.N, _)

/-! ## The four arrays -/

/-- The adjacency, as integers. -/
abbrev arrAdj : Vec Ideal S4x2048x2048 .i8 := fun y : S4x2048x2048.Idx => Ideal.fptosi 8 (argAdj m c (ix3 (y 0) (y 1) (y 2)))
/-- The second layer's projected rows. -/
abbrev arrH1 : Vec Ideal S4x4x2048x64 .f32 := fun y : S4x4x2048x64.Idx => (params m c (y 0)).h1 (y 1) (y 2) (y 3)
/-- The second layer's source scores. -/
abbrev arrS1 : Vec Ideal S4x4x2048x1 .f32 := fun y : S4x4x2048x1.Idx => score ((params m c (y 0)).h1 (y 1) (y 2)) ((params m c (y 0)).aS1 (y 1))
/-- The second layer's destination scores. -/
abbrev arrD1 : Vec Ideal S4x4x1x2048 .f32 := fun y : S4x4x1x2048.Idx => score ((params m c (y 0)).h1 (y 1) (y 3)) ((params m c (y 0)).aD1 (y 1))

/-- A point that writes a result block is an attention step. -/
theorem attn_of_flush (w : Fin cfg0.W) (hno : ∀ t : Fin cfg0.N, t.val % 5 = 0 → (cfg0.win w).flush t = false) (t : Fin cfg0.N)
    (hf : (cfg0.win w).flush t = true) : t.val % 5 ≠ 0 := fun h => by
  rw [hno t h] at hf
  exact Bool.false_ne_true hf

/-- The stored adjacency, as the first call leaves it. -/
theorem left_adj : (C2 m c main_v1_0 : Vec Ideal S4x2048x2048 .i8) = arrAdj m c := by
  refine (C2_arr m c 9).trans ?_
  refine (dat0 (U1 m) c).arrAt_eq_of_covers 9 (arrAdj m c) (by decide +kernel) fun t hf y => ?_
  have ht := attn_of_flush 9 noFlush0_9 t hf
  blk_simp
  rw [after0_9]
  obtain ⟨i, r, j, rfl⟩ : ∃ i r j, y = ix3 (n0 := 1) (n1 := 512) (n2 := 2048) i r j := ⟨_, _, _, eq_ix3 y⟩
  obtain rfl : i = 0 := Subsingleton.elim _ _
  refine (blkAdj_eq m c t r j).trans (congrArg (arrAdj m c) (a₁ := ix3 (batch0 t) (row0 t r) j) ?_)
  blk_ext [at0_9 t ht, batch0, row0]

section Layer
variable (hadj : Binary m c) (hfin : ∀ b, (params m c b).Finite)
include hadj hfin

/-- The second layer's projected rows, as the first call leaves them. -/
theorem left_h : (C2 m c main_v1_1 : Vec Ideal S4x4x2048x64 .f32) = arrH1 m c := by
  refine (C2_arr m c 10).trans ?_
  refine (dat0 (U1 m) c).arrAt_eq_of_covers 10 (arrH1 m c) (by decide +kernel) fun t hf y => ?_
  have ht := attn_of_flush 10 noFlush0_10 t hf
  blk_simp
  rw [after0_10]
  obtain ⟨i, k, r, o, rfl⟩ : ∃ i k r o, y = ix4 (n0 := 1) (n1 := 4) (n2 := 512) (n3 := 64) i k r o := ⟨_, _, _, _, eq_ix4 y⟩
  obtain rfl : i = 0 := Subsingleton.elim _ _
  refine (blkH_eq m c hadj hfin t ht k r o).trans (congrArg (arrH1 m c) (a₁ := ix4 (batch0 t) k (row0 t r) o) ?_)
  blk_ext [at0_10 t ht, batch0, row0]

/-- The second layer's source scores, as the first call leaves them. -/
theorem left_s : (C2 m c main_v1_2 : Vec Ideal S4x4x2048x1 .f32) = arrS1 m c := by
  refine (C2_arr m c 11).trans ?_
  refine (dat0 (U1 m) c).arrAt_eq_of_covers 11 (arrS1 m c) (by decide +kernel) fun t hf y => ?_
  have ht := attn_of_flush 11 noFlush0_11 t hf
  blk_simp
  rw [after0_11]
  obtain ⟨i, k, r, z, rfl⟩ : ∃ i k r z, y = ix4 (n0 := 1) (n1 := 4) (n2 := 512) (n3 := 1) i k r z := ⟨_, _, _, _, eq_ix4 y⟩
  obtain rfl : i = 0 := Subsingleton.elim _ _
  obtain rfl : z = 0 := Subsingleton.elim _ _
  refine (blkS_eq m c hadj hfin t ht k r).trans (congrArg (arrS1 m c) (a₁ := ix4 (batch0 t) k (row0 t r) 0) ?_)
  blk_ext [at0_11 t ht, batch0, row0]

/-- The second layer's destination scores, as the first call leaves them. -/
theorem left_d : (C2 m c main_v1_3 : Vec Ideal S4x4x1x2048 .f32) = arrD1 m c := by
  refine (C2_arr m c 12).trans ?_
  refine (dat0 (U1 m) c).arrAt_eq_of_covers 12 (arrD1 m c) (by decide +kernel) fun t hf y => ?_
  have ht := attn_of_flush 12 noFlush0_12 t hf
  blk_simp
  rw [after0_12]
  obtain ⟨i, k, z, r, rfl⟩ : ∃ i k z r, y = ix4 (n0 := 1) (n1 := 4) (n2 := 1) (n3 := 512) i k z r := ⟨_, _, _, _, eq_ix4 y⟩
  obtain rfl : i = 0 := Subsingleton.elim _ _
  obtain rfl : z = 0 := Subsingleton.elim _ _
  refine (blkD_eq m c hadj hfin t ht k r).trans (congrArg (arrD1 m c) (a₁ := ix4 (batch0 t) k 0 (row0 t r)) ?_)
  blk_ext [at0_12 t ht, batch0, row0]
end Layer

end Cert.KernelIdeal.Gat
end
-- ==== Proof.Value.Read1.lean ====
module

public import proofs.«01_k».proof.Proof.Ideal.Region1
public import proofs.«01_k».proof.Proof.Value.Read0

/-! # The second call's blocks, entry by entry

What one step of the second call stores in its two results, each read at one entry over the extended reals. -/

@[expose] public section
set_option maxRecDepth 16384
noncomputable section
namespace Cert.KernelIdeal.Gat
open Cert.KernelIdeal Cert.KernelIdeal.Gen
open Idealize.ShloMosaic
open Cert.Gat

variable (s : Vec Ideal S1x4x256x1 .f32) (d : Vec Ideal S1x4x1x2048 .f32) (adj : Vec Ideal S1x256x2048 .i8)
  (h : Vec Ideal S1x4x2048x64 .f32) (b : Vec Ideal S1x64 .f32)

/-- What a pair of rows contributes to a head's row of the second layer: nothing off the edges. -/
def pullAt (k : Fin 4) (r : Fin 256) (j : Fin 2048) : EReal :=
  Scalar.select (IntOp.cmpi CmpIPredicate.eq (adj (ix3 0 r j)) 0#8) 0
    (pull (topOf fun j => d (ix4 0 k 0 j)) (s (ix4 0 k r 0)) (d (ix4 0 k 0 j)))

/-- The choice the kernel makes at a pair of rows: nothing where the adjacency is zero. -/
theorem pullAt_eq (k : Fin 4) (r : Fin 256) (j : Fin 2048) :
    pullAt s d adj k r j = if adj (ix3 0 r j) = 0#8 then 0 else pull (topOf fun j => d (ix4 0 k 0 j)) (s (ix4 0 k r 0)) (d (ix4 0 k 0 j)) := by
  have hc : IntOp.cmpi CmpIPredicate.eq (adj (ix3 0 r j)) 0#8 = if adj (ix3 0 r j) = 0#8 then 1#1 else 0#1 := by
    unfold IntOp.cmpi
    by_cases hz : adj (ix3 0 r j) = 0#8
    · simp [hz]
    · rw [if_neg hz, beq_eq_false_iff_ne.2 hz]; rfl
  unfold pullAt Scalar.select
  rw [hc]
  by_cases hz : adj (ix3 0 r j) = 0#8
  · rw [if_pos hz, if_pos hz]; rfl
  · rw [if_neg hz, if_neg hz]; rfl

/-- A factor beside a choice with nothing on one side moves into the choice. -/
theorem select_zero_mul (c : BitVec 1) (x y : EReal) : Scalar.select c 0 (x * y) = Scalar.select c 0 x * y := by
  unfold Scalar.select
  split_ifs
  · rw [zero_mul]
  · rfl

/-- One entry of a head's output in the second layer, its bias added. -/
def outAt (k : Fin 4) (r : Fin 256) (o : Fin 64) : EReal :=
  rowValue (pullAt s d adj k r) (fun j => h (ix4 0 k j o)) + b (ix2 0 o)

/-- The first result's block. -/
abbrev blkX : Vec Ideal S1x256x256 .f32 := fun y : S1x256x256.Idx => outAt s d adj h b (headOf (y 2)) (y 1) (colOf (y 2))

/-- The second result's block. -/
abbrev blkW : Vec Ideal S1x4x256x2048 .f32 := fun y : S1x4x256x2048.Idx => rowWeight (pullAt s d adj (y 1) (y 2)) (y 3)

/-- The stored weights are the kernel's row weights. -/
theorem blockW_read : blockW s d adj h = blkW s d adj := by
  funext y
  unfold blockW
  refine View.canon_apply_of_pieces (blkW s d adj) _ ?_ _ (cover_blockW ..)
  simp only [List.forall_mem_cons, List.not_mem_nil, false_implies, implies_true, and_true]
  refine ⟨?_, ?_, ?_, ?_⟩ <;>
  · intro y
    obtain ⟨i, k, n, o, rfl⟩ : ∃ i k n o, y = ix4 (n0 := 1) (n1 := 1) (n2 := 256) (n3 := 2048) i k n o := ⟨_, _, _, _, eq_ix4 y⟩
    obtain rfl : i = 0 := Subsingleton.elim _ _
    obtain rfl : k = 0 := Subsingleton.elim _ _
    show _ = View.ld (blkW s d adj) _ _
    first | unfold outW3 score1_3 | unfold outW2 score1_2 | unfold outW1 score1_1 | unfold outW0 score1_0
    unfold edges1
    unfold_payloads
    pointwise [dot_S256x2048_S2048x65_S256x65_1_0_0_1_n_n]
    rw [named_rest, named_neg_rest, word_slope, word_low, word_share]
    simp only [select_zero_mul]
    rfl

/-- The stored rows are the heads' outputs side by side. -/
theorem blockX_read : blockX s d adj h b = blkX s d adj h b := by
  funext y
  unfold blockX
  refine View.canon_apply_of_pieces (blkX s d adj h b) _ ?_ _ (cover_blockX ..)
  simp only [List.forall_mem_cons, List.not_mem_nil, false_implies, implies_true, and_true]
  have key : ∀ (k : Fin 4) (r : Fin 256) (o : Fin 64) (c : Fin 256), (c : ℕ) = 64 * k + o →
      blkX s d adj h b (ix3 0 r c) = outAt s d adj h b k r o := by
    intro k r o c hc
    have hk : headOf c = k := Fin.ext (by simp only [headOf]; omega)
    have ho : colOf c = o := Fin.ext (by simp only [colOf]; omega)
    show outAt s d adj h b (headOf c) r (colOf c) = _
    rw [hk, ho]
  refine ⟨?_, ?_, ?_, ?_⟩ <;>
  · intro y
    obtain ⟨i, n, o, rfl⟩ : ∃ i n o, y = ix3 (n0 := 1) (n1 := 256) (n2 := 64) i n o := ⟨_, _, _, eq_ix3 y⟩
    obtain rfl : i = 0 := Subsingleton.elim _ _
    show _ = View.ld (blkX s d adj h b) _ _
    first | unfold outX3 score1_3 | unfold outX2 score1_2 | unfold outX1 score1_1 | unfold outX0 score1_0
    unfold edges1
    unfold_payloads
    pointwise [dot_S256x2048_S2048x65_S256x65_1_0_0_1_n_n]
    rw [named_rest, named_neg_rest, word_slope, word_low, word_rows]
    simp only [select_zero_mul]
    first
      | exact (key 0 n o ⟨o, by omega⟩ (by simp)).symm
      | exact (key 1 n o ⟨64 + o, by omega⟩ (by simp)).symm
      | exact (key 2 n o ⟨128 + o, by omega⟩ (by simp)).symm
      | exact (key 3 n o ⟨192 + o, by omega⟩ (by simp)).symm

end Cert.KernelIdeal.Gat
end
-- ==== Proof.Value.Left1.lean ====
module

public import proofs.«01_k».proof.Proof.Value.Left0
public import proofs.«01_k».proof.Proof.Value.Read1

/-! # What the second call leaves

Its two result arrays, whole: the second layer's rows and its attention weights. -/

@[expose] public section
set_option maxRecDepth 16384
noncomputable section
namespace Cert.KernelIdeal.Gat
open Cert.KernelIdeal Cert.KernelIdeal.Gen
open Idealize.ShloMosaic Idealize.ShloMosaic.TcCoe
open Idealize.ShloMosaic.Pipeline (Dat)
open Cert.Gat

variable (m : (ℓ : Loc nD τ sig) → Buf (Elt Ideal) ℓ) (c : Dev nD)

/-! ## Where the blocks lie -/

/-- Which block the second call's window of the source scores shows at a step. -/
theorem at1_0 : ∀ t : Fin cfg1.N, win1_0.index t = ![t.val / 8, 0, t.val % 8, 0] := (by decide +kernel : ∀ t : Fin grid1.N, _)
/-- Which block the second call's window of the destination scores shows at a step. -/
theorem at1_1 : ∀ t : Fin cfg1.N, win1_1.index t = ![t.val / 8, 0, 0, 0] := (by decide +kernel : ∀ t : Fin grid1.N, _)
/-- Which block the second call's window of the adjacency as int8 shows at a step. -/
theorem at1_2 : ∀ t : Fin cfg1.N, win1_2.index t = ![t.val / 8, t.val % 8, 0] := (by decide +kernel : ∀ t : Fin grid1.N, _)
/-- Which block the second call's window of the projected rows shows at a step. -/
theorem at1_3 : ∀ t : Fin cfg1.N, win1_3.index t = ![t.val / 8, 0, 0, 0] := (by decide +kernel : ∀ t : Fin grid1.N, _)
/-- Which block the second call's window of the bias shows at a step. -/
theorem at1_4 : ∀ t : Fin cfg1.N, win1_4.index t = ![0, 0] := (by decide +kernel : ∀ t : Fin grid1.N, _)
/-- Which block the second call's window of the rows of the first result shows at a step. -/
theorem at1_5 : ∀ t : Fin cfg1.N, win1_5.index t = ![t.val / 8, t.val % 8, 0] := (by decide +kernel : ∀ t : Fin grid1.N, _)
/-- Which block the second call's window of the weights of the second result shows at a step. -/
theorem at1_6 : ∀ t : Fin cfg1.N, win1_6.index t = ![t.val / 8, 0, t.val % 8, 0] := (by decide +kernel : ∀ t : Fin grid1.N, _)

/-- The batch element a point works on. -/
def batch1 (t : Fin cfg1.N) : Fin 4 := ⟨t.val / 8, by have h : t.val < 32 := t.isLt; omega⟩
/-- The row of the array that row `r` of a point's block is. -/
def row1 (t : Fin cfg1.N) (r : Fin 256) : Row := ⟨t.val % 8 * 256 + r, by omega⟩

/-- The reshaped bias of the second layer. -/
theorem bias1 (o : Fin 64) : (U3 m c main_v2 : Vec Ideal S1x64 .f32) (ix2 0 o) = argB1 m c (ix1 o) := by
  have h : (U3 m c main_v2 : Vec Ideal S1x64 .f32) = shapeCast S1x64 (C2 m c main_arg9 : Vec Ideal S64 .f32) shapeCasts_S64_S1x64 := by
    show StableHlo.after hostOps1 (C2 m c) main_v2 = _
    unfold hostOps1
    after_results
    rfl
  rw [h, show (C2 m c main_arg9 : Vec Ideal S64 .f32) = argB1 m c from C2_args m c main_arg9 (by simp)]
  pointwise

/-- Zero, as an integer. -/
theorem int_zero : Ideal.fptosi 8 (0 : EReal) = 0#8 := by
  have h : Ideal.fptosi 8 ((0 : ℝ) : EReal) = 0#8 := by
    show BitVec.ofInt 8 (max _ (min _ (if (0 : ℝ) ≤ 0 then ⌊(0 : ℝ)⌋ else ⌈(0 : ℝ)⌉))) = _
    rw [if_pos le_rfl, Int.floor_zero]
    decide
  exact h
/-- One, as an integer, is not zero. -/
theorem int_one : Ideal.fptosi 8 (1 : EReal) ≠ 0#8 := by
  have h : Ideal.fptosi 8 ((1 : ℝ) : EReal) = 1#8 := by
    show BitVec.ofInt 8 (max _ (min _ (if (0 : ℝ) ≤ 1 then ⌊(1 : ℝ)⌋ else ⌈(1 : ℝ)⌉))) = _
    rw [if_pos zero_le_one, Int.floor_one]
    decide
  rw [show (1 : EReal) = ((1 : ℝ) : EReal) from rfl, h]
  decide

/-! ## The input blocks -/

/-- What the first call leaves is what the second finds. -/
theorem found (r : Ref sig .tc) (h : r ∉ hostOps1_W) : U3 m c r = C2 m c r := C3_of m c r h

/-- An entry of the second call's block of the adjacency as int8, in terms of the parameters. -/
theorem blk1_2 (t : Fin cfg1.N) (r : Fin 256) (j : Row) :
    (iblk1 (U3 m) c 2 t : Vec Ideal S1x256x2048 .i8) (ix3 0 r j) = Ideal.fptosi 8 (argAdj m c (ix3 (batch1 t) (row1 t r) j)) := by
  show (U3 m c main_v1_0 : Vec Ideal S4x2048x2048 .i8) _ = _
  rw [found m c main_v1_0 (by decide +kernel), left_adj]
  refine congrArg (arrAdj m c) (a₂ := ix3 (batch1 t) (row1 t r) j) ?_
  blk_ext [at1_2, batch1, row1]
/-- An entry of the second call's block of the bias, in terms of the parameters. -/
theorem blk1_4 (t : Fin cfg1.N) (o : Fin 64) :
    (iblk1 (U3 m) c 4 t : Vec Ideal S1x64 .f32) (ix2 0 o) = argB1 m c (ix1 o) := by
  rw [← bias1 m c o]
  show (U3 m c main_v2 : Vec Ideal S1x64 .f32) _ = _
  refine congrArg (U3 m c main_v2 : Vec Ideal S1x64 .f32) ?_
  blk_ext [at1_4]

section Layer
variable (hadj : Binary m c) (hfin : ∀ b, (params m c b).Finite)
include hadj hfin

/-- An entry of the second call's block of the source scores, in terms of the parameters. -/
theorem blk1_0 (t : Fin cfg1.N) (k : Fin 4) (r : Fin 256) :
    (iblk1 (U3 m) c 0 t : Vec Ideal S1x4x256x1 .f32) (ix4 0 k r 0)
      = score ((params m c (batch1 t)).h1 k (row1 t r)) ((params m c (batch1 t)).aS1 k) := by
  show (U3 m c main_v1_2 : Vec Ideal S4x4x2048x1 .f32) _ = _
  rw [found m c main_v1_2 (by decide +kernel), left_s m c hadj hfin]
  refine congrArg (arrS1 m c) (a₂ := ix4 (batch1 t) k (row1 t r) 0) ?_
  blk_ext [at1_0, batch1, row1]
/-- An entry of the second call's block of the destination scores, in terms of the parameters. -/
theorem blk1_1 (t : Fin cfg1.N) (k : Fin 4) (j : Row) :
    (iblk1 (U3 m) c 1 t : Vec Ideal S1x4x1x2048 .f32) (ix4 0 k 0 j)
      = score ((params m c (batch1 t)).h1 k j) ((params m c (batch1 t)).aD1 k) := by
  show (U3 m c main_v1_3 : Vec Ideal S4x4x1x2048 .f32) _ = _
  rw [found m c main_v1_3 (by decide +kernel), left_d m c hadj hfin]
  refine congrArg (arrD1 m c) (a₂ := ix4 (batch1 t) k 0 j) ?_
  blk_ext [at1_1, batch1]
/-- An entry of the second call's block of the projected rows, in terms of the parameters. -/
theorem blk1_3 (t : Fin cfg1.N) (k : Fin 4) (j : Row) (o : Fin 64) :
    (iblk1 (U3 m) c 3 t : Vec Ideal S1x4x2048x64 .f32) (ix4 0 k j o) = (params m c (batch1 t)).h1 k j o := by
  show (U3 m c main_v1_1 : Vec Ideal S4x4x2048x64 .f32) _ = _
  rw [found m c main_v1_1 (by decide +kernel), left_h m c hadj hfin]
  refine congrArg (arrH1 m c) (a₂ := ix4 (batch1 t) k j o) ?_
  blk_ext [at1_3, batch1]

/-- What a pair of neighbours contributes. -/
theorem pull_edge (t : Fin cfg1.N) (k : Fin 4) (r : Fin 256) (j : Row) (hj : (params m c (batch1 t)).edge (row1 t r) j) :
    pullAt (iblk1 (U3 m) c 0 t) (iblk1 (U3 m) c 1 t) (iblk1 (U3 m) c 2 t) k r j
      = pull (topOf fun j => score ((params m c (batch1 t)).h1 k j) ((params m c (batch1 t)).aD1 k))
          (score ((params m c (batch1 t)).h1 k (row1 t r)) ((params m c (batch1 t)).aS1 k))
          (score ((params m c (batch1 t)).h1 k j) ((params m c (batch1 t)).aD1 k)) := by
  rw [pullAt_eq, blk1_2, (hadj (batch1 t) (row1 t r) j).resolve_left hj, if_neg int_one, blk1_0 m c hadj hfin]
  simp only [blk1_1 m c hadj hfin]
/-- Rows that are no neighbours contribute nothing. -/
theorem pull_none (t : Fin cfg1.N) (k : Fin 4) (r : Fin 256) (j : Row) (hj : ¬(params m c (batch1 t)).edge (row1 t r) j) :
    pullAt (iblk1 (U3 m) c 0 t) (iblk1 (U3 m) c 1 t) (iblk1 (U3 m) c 2 t) k r j = 0 := by
  rw [pullAt_eq, blk1_2, not_not.1 hj, if_pos int_zero]

/-! ## The two arrays -/

/-- The first result: the second layer's rows. -/
abbrev arrX : Vec Ideal S4x2048x256 .f32 := fun y : S4x2048x256.Idx => (params m c (y 0)).x2 (y 1) (y 2)
/-- The second result: the second layer's attention weights. -/
abbrev arrW : Vec Ideal S4x4x2048x2048 .f32 := fun y : S4x4x2048x2048.Idx => (params m c (y 0)).weights (y 1) (y 2) (y 3)

/-- The first result, as the program leaves it. -/
theorem left_x : (C4 m c main_v3_0 : Vec Ideal S4x2048x256 .f32) = arrX m c := by
  refine (C4_arr m c 5).trans ?_
  refine (dat1 (U3 m) c).arrAt_eq_of_covers 5 (arrX m c) (by decide +kernel) fun t hf y => ?_
  blk_simp
  rw [after1_5, blockX_read]
  obtain ⟨i, r, o, rfl⟩ : ∃ i r o, y = ix3 (n0 := 1) (n1 := 256) (n2 := 256) i r o := ⟨_, _, _, eq_ix3 y⟩
  obtain rfl : i = 0 := Subsingleton.elim _ _
  refine Eq.trans ?_ (congrArg (arrX m c) (a₁ := ix3 (batch1 t) (row1 t r) o) ?_)
  · show outAt (iblk1 (U3 m) c 0 t) (iblk1 (U3 m) c 1 t) (iblk1 (U3 m) c 2 t) (iblk1 (U3 m) c 3 t) (iblk1 (U3 m) c 4 t) (headOf o) r (colOf o) = _
    unfold outAt
    rw [blk1_4]
    simp only [blk1_3 m c hadj hfin]
    exact rowValue_attend (params m c (batch1 t)).h1 _ _ (params m c (batch1 t)).edge (hfin _).aS1 (hfin _).aD1 (headOf o) (row1 t r) _
      (pull_edge m c hadj hfin t (headOf o) r) (pull_none m c hadj hfin t (headOf o) r) (params m c (batch1 t)).b1 (colOf o)
  · blk_ext [at1_5, batch1, row1]

/-- The second result, as the program leaves it. -/
theorem left_w : (C4 m c main_v3_1 : Vec Ideal S4x4x2048x2048 .f32) = arrW m c := by
  refine (C4_arr m c 6).trans ?_
  refine (dat1 (U3 m) c).arrAt_eq_of_covers 6 (arrW m c) (by decide +kernel) fun t hf y => ?_
  blk_simp
  rw [after1_6, blockW_read]
  obtain ⟨i, k, r, j, rfl⟩ : ∃ i k r j, y = ix4 (n0 := 1) (n1 := 4) (n2 := 256) (n3 := 2048) i k r j := ⟨_, _, _, _, eq_ix4 y⟩
  obtain rfl : i = 0 := Subsingleton.elim _ _
  refine Eq.trans ?_ (congrArg (arrW m c) (a₁ := ix4 (batch1 t) k (row1 t r) j) ?_)
  · exact rowWeight_attention (params m c (batch1 t)).h1 _ _ (params m c (batch1 t)).edge (hfin _).aS1 (hfin _).aD1 k (row1 t r) _
      (pull_edge m c hadj hfin t k r) (pull_none m c hadj hfin t k r) j
  · blk_ext [at1_6, batch1, row1]
end Layer

end Cert.KernelIdeal.Gat
end
-- ==== Proof.Value.Layer.lean ====
module

public import proofs.«01_k».proof.Proof.Gen.ReferenceIdeal.Read
public import proofs.«01_k».proof.Proof.Value.Spec
public import Idealize.ShloMosaic.Lib.Pointwise
public import Idealize.ShloMosaic.Lib.ReduceAll

/-! # The reference's layer

One layer of the reference from its projected rows on, as functions of them, and what they hold at an index. -/

@[expose] public section
set_option maxRecDepth 16384
noncomputable section
namespace Cert.ReferenceIdeal.Gat
open Cert.ReferenceIdeal Cert.ReferenceIdeal.Gen
open Idealize.ShloMosaic Idealize.ShloMosaic.TcCoe
open Cert.Gat

variable (h : FVec Ideal S4x4x2048x64 .f32) (adj : FVec Ideal S4x2048x2048 .f32) (aS aD : FVec Ideal S4x64x1 .f32) (b : FVec Ideal S64 .f32)

/-- The scores of the rows against an attention vector. -/
def scores (a : FVec Ideal S4x64x1 .f32) : FVec Ideal S4x4x2048x1 .f32 :=
  transpose S4x4x2048x1 [2, 0, 3, 1] (Host.dotGeneral (F := Ideal) dot_S4x64x1_S4x4x2048x64_S4x1x4x2048_1_3_2_02_0_1 none a (Host.tanh (F := Ideal) h)) transposes_S4x1x4x2048_S4x4x2048x1_2_0_3_1
/-- The sum of the two scores of every pair of rows. -/
def pairs : FVec Ideal S4x4x2048x2048 .f32 :=
  addf (F := Ideal) (broadcastInDim S4x4x2048x2048 ![0, 1, 2, 3] bcast_S4x4x2048x1_S4x4x2048x2048_0_1_2_3 (scores h aS))
    (broadcastInDim S4x4x2048x2048 ![0, 1, 2, 3] bcast_S4x4x1x2048_S4x4x2048x2048_0_1_2_3 (transpose S4x4x1x2048 [0, 1, 3, 2] (scores h aD) transposes_S4x4x2048x1_S4x4x1x2048_0_1_3_2))
/-- The leaky rectifier of the pairs. -/
def leaked : FVec Ideal S4x4x2048x2048 .f32 :=
  select (cmpf (F := Ideal) .ogt (pairs h aS aD) (broadcastInDim S4x4x2048x2048 ![] bcast_S_S4x4x2048x2048 (constant (F := Ideal) S_ .f32 0x00000000#32))) (pairs h aS aD)
    (mulf (F := Ideal) (broadcastInDim S4x4x2048x2048 ![] bcast_S_S4x4x2048x2048 (constant (F := Ideal) S_ .f32 0x3E4CCCCD#32)) (pairs h aS aD))
/-- Where the adjacency is zero. -/
def apart : IVec S4x1x2048x2048 1 :=
  cmpf (F := Ideal) .oeq (broadcastInDim S4x1x2048x2048 ![0, 2, 3] bcast_S4x2048x2048_S4x1x2048x2048_0_2_3 adj) (broadcastInDim S4x1x2048x2048 ![] bcast_S_S4x1x2048x2048 (constant (F := Ideal) S_ .f32 0x00000000#32))
/-- Where a whole row of the adjacency is zero. -/
def alone : IVec S4x1x2048 1 :=
  Host.reduce IntOp.andi (apart adj) (constantI S_ 1 1#1) reducesTo_S4x1x2048x2048_S4x1x2048_d3 h_S_
/-- What stands in a row's masked places. -/
def filler : FVec Ideal S4x1x2048x1 .f32 :=
  select (broadcastInDim S4x1x2048x1 ![0, 1, 2] bcast_S4x1x2048_S4x1x2048x1_0_1_2 (alone adj))
    (broadcastInDim S4x1x2048x1 ![] bcast_S_S4x1x2048x1 (constant (F := Ideal) S_ .f32 0x00000000#32)) (broadcastInDim S4x1x2048x1 ![] bcast_S_S4x1x2048x1 (constant (F := Ideal) S_ .f32 0xFF800000#32))
/-- The masked scores. -/
def masked : FVec Ideal S4x4x2048x2048 .f32 :=
  select (broadcastInDim S4x4x2048x2048 ![0, 1, 2, 3] bcast_S4x1x2048x2048_S4x4x2048x2048_0_1_2_3 (apart adj))
    (broadcastInDim S4x4x2048x2048 ![0, 1, 2, 3] bcast_S4x1x2048x1_S4x4x2048x2048_0_1_2_3 (filler adj)) (leaked h aS aD)
/-- The greatest masked score of every row. -/
def tops (v : FVec Ideal S4x4x2048x2048 .f32) : FVec Ideal S4x4x2048 .f32 :=
  maximumf (F := Ideal) (broadcastInDim S4x4x2048 ![] bcast_S_S4x4x2048 (constant (F := Ideal) S_ .f32 0xFF800000#32))
    (Host.reduce (FloatOps.maximumf (F := Ideal) (φ := .f32)) v (constant (F := Ideal) S_ .f32 0xFF800000#32) reducesTo_S4x4x2048x2048_S4x4x2048_d3 h_S_)
/-- The exponentials of a matrix's rows, measured from their greatest entries. -/
def expo (v : FVec Ideal S4x4x2048x2048 .f32) : FVec Ideal S4x4x2048x2048 .f32 :=
  Host.exp (F := Ideal) (subf (F := Ideal) v (broadcastInDim S4x4x2048x2048 ![0, 1, 2, 3] bcast_S4x4x2048x1_S4x4x2048x2048_0_1_2_3 (broadcastInDim S4x4x2048x1 ![0, 1, 2] bcast_S4x4x2048_S4x4x2048x1_0_1_2 (tops v))))
/-- The softmax of a matrix's rows. -/
def soft (v : FVec Ideal S4x4x2048x2048 .f32) : FVec Ideal S4x4x2048x2048 .f32 :=
  Host.divf (F := Ideal) (expo v) (broadcastInDim S4x4x2048x2048 ![0, 1, 2, 3] bcast_S4x4x2048x1_S4x4x2048x2048_0_1_2_3 (broadcastInDim S4x4x2048x1 ![0, 1, 2] bcast_S4x4x2048_S4x4x2048x1_0_1_2
    (Host.reduceAdd (F := Ideal) (expo v) (constant (F := Ideal) S_ .f32 0x00000000#32) reducesTo_S4x4x2048x2048_S4x4x2048_d3 h_S_)))
/-- The rows the weights give, the bias added and the heads joined. -/
def joined (p : FVec Ideal S4x4x2048x2048 .f32) : FVec Ideal S4x2048x256 .f32 :=
  shapeCast S4x2048x256 (transpose S4x2048x4x64 [0, 2, 1, 3] (addf (F := Ideal) (Host.dotGeneral (F := Ideal) dot_S4x4x2048x2048_S4x4x2048x64_S4x4x2048x64_3_2_2_3_01_01 none p h)
    (broadcastInDim S4x4x2048x64 ![0, 1, 2, 3] bcast_S1x1x1x64_S4x4x2048x64_0_1_2_3 (broadcastInDim S1x1x1x64 ![3] bcast_S64_S1x1x1x64_3 b))) transposes_S4x4x2048x64_S4x2048x4x64_0_2_1_3) shapeCasts_S4x2048x4x64_S4x2048x256

section Named
variable (x0 : FVec Ideal S4x2048x128 .f32) (x1 : FVec Ideal S4x2048x2048 .f32) (x2 : FVec Ideal S4x128x64 .f32) (x3 x4 : FVec Ideal S4x64x1 .f32) (x5 : FVec Ideal S64 .f32)
  (x6 : FVec Ideal S4x256x64 .f32) (x7 x8 : FVec Ideal S4x64x1 .f32) (x9 : FVec Ideal S64 .f32)
open Cert.ReferenceIdeal.Read
/-- The first layer's masked scores. -/
theorem masked0 : val_main_v22 (F := Ideal) x0 x1 x2 x3 x4 = masked (val_main_v1 (F := Ideal) x0 x2) x1 x3 x4 := by
  have e4 : val_main_v4 (F := Ideal) x0 x2 x3 = scores (val_main_v1 (F := Ideal) x0 x2) x3 := by
    unfold val_main_v4 val_main_v3 val_main_v2 scores; rfl
  have e6 : val_main_v6 (F := Ideal) x0 x2 x4 = scores (val_main_v1 (F := Ideal) x0 x2) x4 := by
    unfold val_main_v6 val_main_v5 val_main_v2 scores; rfl
  have e10 : val_main_v10 (F := Ideal) x0 x2 x3 x4 = pairs (val_main_v1 (F := Ideal) x0 x2) x3 x4 := by
    unfold val_main_v10 val_main_v8 val_main_v9 val_main_v7 pairs; rw [e4, e6]
  have e15 : val_main_v15 (F := Ideal) x0 x2 x3 x4 = leaked (val_main_v1 (F := Ideal) x0 x2) x3 x4 := by
    unfold val_main_v15 val_main_v12 val_main_v14 leaked; rw [e10]; rfl
  have e18 : val_main_v18 (F := Ideal) x1 = apart x1 := rfl
  have e21 : val_main_v21 (F := Ideal) x1 = filler x1 := by
    unfold val_main_v21 val_main_v20 val_main_v19 filler alone; rw [e18]; rfl
  unfold val_main_v22 val_main_call2_v0 val_main_call2_v1 masked
  rw [e15, e21, e18]
/-- The first layer's weights. -/
theorem soft0 : val_main_v33 (F := Ideal) x0 x1 x2 x3 x4 = soft (val_main_v22 (F := Ideal) x0 x1 x2 x3 x4) := by
  unfold val_main_v33 val_main_v32 val_main_v31 val_main_v30 val_main_v29 val_main_v28 val_main_v27 val_main_v26 val_main_v25 val_main_v23 soft expo tops
  rfl
/-- The first layer's rows. -/
theorem joined0 : val_main_v39 (F := Ideal) x0 x1 x2 x3 x4 x5 = joined (val_main_v1 (F := Ideal) x0 x2) x5 (val_main_v33 (F := Ideal) x0 x1 x2 x3 x4) := by
  unfold val_main_v39 val_main_v38 val_main_v37 val_main_v36 val_main_v35 val_main_v34 joined
  rfl
/-- The second layer's masked scores. -/
theorem masked1 : val_main_v62 (F := Ideal) x0 x1 x2 x3 x4 x5 x6 x7 x8 = masked (val_main_v41 (F := Ideal) x0 x1 x2 x3 x4 x5 x6) x1 x7 x8 := by
  have e4 : val_main_v44 (F := Ideal) x0 x1 x2 x3 x4 x5 x6 x7 = scores (val_main_v41 (F := Ideal) x0 x1 x2 x3 x4 x5 x6) x7 := by
    unfold val_main_v44 val_main_v43 val_main_v42 scores; rfl
  have e6 : val_main_v46 (F := Ideal) x0 x1 x2 x3 x4 x5 x6 x8 = scores (val_main_v41 (F := Ideal) x0 x1 x2 x3 x4 x5 x6) x8 := by
    unfold val_main_v46 val_main_v45 val_main_v42 scores; rfl
  have e10 : val_main_v50 (F := Ideal) x0 x1 x2 x3 x4 x5 x6 x7 x8 = pairs (val_main_v41 (F := Ideal) x0 x1 x2 x3 x4 x5 x6) x7 x8 := by
    unfold val_main_v50 val_main_v48 val_main_v49 val_main_v47 pairs; rw [e4, e6]
  have e15 : val_main_v55 (F := Ideal) x0 x1 x2 x3 x4 x5 x6 x7 x8 = leaked (val_main_v41 (F := Ideal) x0 x1 x2 x3 x4 x5 x6) x7 x8 := by
    unfold val_main_v55 val_main_v52 val_main_v54 leaked; rw [e10]; rfl
  have e18 : val_main_v58 (F := Ideal) x1 = apart x1 := rfl
  have e21 : val_main_v61 (F := Ideal) x1 = filler x1 := by
    unfold val_main_v61 val_main_v60 val_main_v59 filler alone; rw [e18]; rfl
  unfold val_main_v62 val_main_call5_v0 val_main_call5_v1 masked
  rw [e15, e21, e18]
/-- The second layer's weights. -/
theorem soft1 : val_main_v73 (F := Ideal) x0 x1 x2 x3 x4 x5 x6 x7 x8 = soft (val_main_v62 (F := Ideal) x0 x1 x2 x3 x4 x5 x6 x7 x8) := by
  unfold val_main_v73 val_main_v72 val_main_v71 val_main_v70 val_main_v69 val_main_v68 val_main_v67 val_main_v66 val_main_v65 val_main_v63 soft expo tops
  rfl
/-- The second layer's rows. -/
theorem joined1 : val_main_v79 (F := Ideal) x0 x1 x2 x3 x4 x5 x6 x7 x8 x9 = joined (val_main_v41 (F := Ideal) x0 x1 x2 x3 x4 x5 x6) x9 (val_main_v73 (F := Ideal) x0 x1 x2 x3 x4 x5 x6 x7 x8) := by
  unfold val_main_v79 val_main_v78 val_main_v77 val_main_v76 val_main_v75 val_main_v74 joined
  rfl
end Named

end Cert.ReferenceIdeal.Gat
end
-- ==== Proof.Value.LayerRead.lean ====
module

public import proofs.«01_k».proof.Proof.Value.Layer
public import proofs.«01_k».proof.Proof.Value.Words

/-! # The reference's results

What a layer of the reference holds at an index, and from it that its two results are those of the two-layer mathematics. -/

@[expose] public section
set_option maxRecDepth 16384
noncomputable section
namespace Cert.ReferenceIdeal.Gat
open Cert.ReferenceIdeal Cert.ReferenceIdeal.Gen
open Idealize.ShloMosaic Idealize.ShloMosaic.TcCoe
open Cert.Gat

/-! ## A layer at an index -/

section Layer
variable (h : FVec Ideal S4x4x2048x64 .f32) (adj : FVec Ideal S4x2048x2048 .f32) (aS aD : FVec Ideal S4x64x1 .f32) (b : FVec Ideal S64 .f32)

/-- A row's score. -/
theorem scores_read (a : FVec Ideal S4x64x1 .f32) (e k : Fin 4) (n : Row) :
    scores h a (ix4 e k n 0) = score (fun o => h (ix4 e k n o)) (fun o => a (ix3 k o 0)) := by
  unfold scores score
  pointwise [dot_S4x64x1_S4x4x2048x64_S4x1x4x2048_1_3_2_02_0_1]
  exact Finset.sum_congr rfl fun o _ => mul_comm _ _

/-- The leaky score of a pair of rows with real scores. -/
theorem leaked_read (e k : Fin 4) (i j : Row) (s d : ℝ) (hs : scores h aS (ix4 e k i 0) = s) (hd : scores h aD (ix4 e k j 0) = d) :
    leaked h aS aD (ix4 e k i j) = ((leaky (s + d) : ℝ) : EReal) := by
  unfold leaked pairs
  pointwise
  rw [Cert.KernelIdeal.Gat.word_slope, hs, hd, ← EReal.coe_add]
  unfold leaky
  by_cases hp : 0 < s + d
  · rw [if_pos hp, if_pos (EReal.coe_pos.2 hp)]
  · rw [if_neg hp, if_neg fun hc => hp (EReal.coe_pos.1 hc), ← EReal.coe_mul]
    rfl

/-- A row of the adjacency counts as alone exactly when all of it is zero. -/
theorem alone_read (e : Fin 4) (i : Row) : alone adj (ix3 e 0 i) = 1#1 ↔ ∀ j, adj (ix3 e i j) = 0 := by
  have hr : alone adj (ix3 e 0 i) = Finset.univ.fold IntOp.andi (1#1) fun j : Row => BitVec.ofBool (decide (adj (ix3 e i j) = 0)) := by
    unfold alone apart
    pointwise
  have key : ∀ t : Finset Row, t.fold IntOp.andi (1#1) (fun j : Row => BitVec.ofBool (decide (adj (ix3 e i j) = 0))) = 1#1
      ↔ ∀ j ∈ t, adj (ix3 e i j) = 0 := by
    intro t
    induction t using Finset.induction_on with
    | empty => simp
    | insert a t ha ih =>
      rw [Finset.fold_insert ha, IntOp.andi_eq_one, ih, Finset.forall_mem_insert]
      refine and_congr ?_ Iff.rfl
      by_cases hz : adj (ix3 e i a) = 0 <;> simp [hz]
  rw [hr, key]
  simp

/-- The masked scores, with real scores. -/
theorem masked_read (e k : Fin 4) (i j : Row) (s : ℝ) (d : Row → ℝ) (hs : scores h aS (ix4 e k i 0) = s)
    (hd : ∀ j, scores h aD (ix4 e k j 0) = d j) :
    masked h adj aS aD (ix4 e k i j) = maskedScore s d (fun j => adj (ix3 e i j) ≠ 0) j := by
  have hr : masked h adj aS aD (ix4 e k i j) = if adj (ix3 e i j) = 0 then Scalar.select (alone adj (ix3 e 0 i)) 0 (Ideal.ofBits FTy.f32 0xFF800000#32)
      else leaked h aS aD (ix4 e k i j) := by
    unfold masked filler apart
    pointwise
  rw [hr, leaked_read h aS aD e k i j s (d j) hs (hd j), Cert.KernelIdeal.Gat.word_low]
  unfold maskedScore Scalar.select
  by_cases hz : adj (ix3 e i j) = 0
  · rw [if_pos hz, if_neg (not_not.2 hz)]
    by_cases ha : ∃ l, adj (ix3 e i l) ≠ 0
    · rw [if_pos ha, if_neg]
      exact fun hc => let ⟨l, hl⟩ := ha; hl ((alone_read adj e i).1 hc l)
    · rw [if_neg ha, if_pos]
      exact (alone_read adj e i).2 fun l => not_not.1 fun hl => ha ⟨l, hl⟩
  · rw [if_neg hz, if_pos hz]

/-- A row's entries folded with any commutative and associative operation. -/
theorem folded_read {α : Type} (f : α → α → α) [Std.Commutative f] [Std.Associative f] (v : S4x4x2048x2048.Idx → α) (z : S_.Idx → α) (e k : Fin 4) (i : Row) :
    Host.reduce f v z reducesTo_S4x4x2048x2048_S4x4x2048_d3 h_S_ (ix3 e k i)
      = Finset.univ.fold f (z (Shape.Idx.first h_S_)) fun j : Row => v (ix4 e k i j) := by
  pointwise

/-- The greater of the least value and an entry is that entry. -/
theorem floor_read (w : FVec Ideal S4x4x2048 .f32) (q : S4x4x2048.Idx) :
    maximumf (F := Ideal) (broadcastInDim S4x4x2048 ![] bcast_S_S4x4x2048 (constant (F := Ideal) S_ .f32 0xFF800000#32)) w q = w q := by
  pointwise
  rw [Cert.KernelIdeal.Gat.word_low]
  exact max_eq_right bot_le

/-- The greatest entry of a row. -/
theorem tops_read (v : FVec Ideal S4x4x2048x2048 .f32) (e k : Fin 4) (i : Row) :
    tops v (ix3 e k i) = Finset.univ.fold max (⊥ : EReal) fun j : Row => v (ix4 e k i j) := by
  have hc : ∀ y, constant (F := Ideal) S_ .f32 0xFF800000#32 y = (⊥ : EReal) := fun _ => Cert.KernelIdeal.Gat.word_low
  have hr := folded_read (FloatOps.maximumf (F := Ideal) (φ := .f32)) v (constant (F := Ideal) S_ .f32 0xFF800000#32) e k i
  rw [hc] at hr
  unfold tops
  rw [floor_read]
  exact hr

/-- The exponential of an entry, measured from the greatest of its row. -/
theorem expo_read (v : FVec Ideal S4x4x2048x2048 .f32) (e k : Fin 4) (i j : Row) :
    expo v (ix4 e k i j) = Ideal.exp (v (ix4 e k i j) - tops v (ix3 e k i)) := by
  unfold expo
  generalize tops v = T
  pointwise

/-- The softmax of a row. -/
theorem soft_read (v : FVec Ideal S4x4x2048x2048 .f32) (e k : Fin 4) (i j : Row) :
    soft v (ix4 e k i j) = Ideal.div (expo v (ix4 e k i j)) (∑ l, expo v (ix4 e k i l)) := by
  unfold soft
  generalize expo v = w
  pointwise

/-- The layer's weights are the attention weights of the rows it is given. -/
theorem weights_read (hS : ∀ k o, ∃ r : ℝ, aS (ix3 k o 0) = r) (hD : ∀ k o, ∃ r : ℝ, aD (ix3 k o 0) = r) (e k : Fin 4) (i j : Row) :
    soft (masked h adj aS aD) (ix4 e k i j)
      = (attention (fun i j => adj (ix3 e i j) ≠ 0) (fun k n o => h (ix4 e k n o)) (fun k o => aS (ix3 k o 0)) (fun k o => aD (ix3 k o 0)) k i j : EReal) := by
  have hs : scores h aS (ix4 e k i 0) = ((score (fun o => h (ix4 e k i o)) fun o => aS (ix3 k o 0)).toReal : EReal) := by
    rw [scores_read]
    exact (coe_toReal_of (score_real _ _ (hS k))).symm
  have hd : ∀ j, scores h aD (ix4 e k j 0) = ((score (fun o => h (ix4 e k j o)) fun o => aD (ix3 k o 0)).toReal : EReal) := by
    intro j
    rw [scores_read]
    exact (coe_toReal_of (score_real _ _ (hD k))).symm
  rw [soft_read]
  simp only [expo_read]
  rw [tops_read]
  simp only [masked_read h adj aS aD e k i _ _ _ hs hd]
  exact softmax_eq _ _ _ j _ rfl

/-- The layer's rows. -/
theorem joined_read (p : FVec Ideal S4x4x2048x2048 .f32) (e : Fin 4) (i : Row) (c : Fin 256) :
    joined h b p (ix3 e i c) = ∑ j, p (ix4 e (headOf c) i j) * h (ix4 e (headOf c) j (colOf c)) + b (ix1 (colOf c)) := by
  unfold joined
  pointwise [dot_S4x4x2048x2048_S4x4x2048x64_S4x4x2048x64_3_2_2_3_01_01]
  rfl
end Layer

/-! ## The two results -/

section Results
variable (x0 : FVec Ideal S4x2048x128 .f32) (x1 : FVec Ideal S4x2048x2048 .f32) (x2 : FVec Ideal S4x128x64 .f32) (x3 x4 : FVec Ideal S4x64x1 .f32) (x5 : FVec Ideal S64 .f32)
  (x6 : FVec Ideal S4x256x64 .f32) (x7 x8 : FVec Ideal S4x64x1 .f32) (x9 : FVec Ideal S64 .f32)

/-- The parameters of batch element `b`. -/
def paramsOf (b : Fin 4) : Params where
  x n i := x0 (ix3 b n i)
  edge i j := x1 (ix3 b i j) ≠ 0
  w0 k i o := x2 (ix3 k i o)
  aS0 k o := x3 (ix3 k o 0)
  aD0 k o := x4 (ix3 k o 0)
  b0 o := x5 (ix1 o)
  w1 k i o := x6 (ix3 k i o)
  aS1 k o := x7 (ix3 k o 0)
  aD1 k o := x8 (ix3 k o 0)
  b1 o := x9 (ix1 o)

open Cert.ReferenceIdeal.Read

/-- The first layer's projected rows. -/
theorem h0_read (e k : Fin 4) (n : Row) (o : Fin 64) : val_main_v1 (F := Ideal) x0 x2 (ix4 e k n o) = (paramsOf x0 x1 x2 x3 x4 x5 x6 x7 x8 x9 e).h0 k n o := by
  have hr : val_main_v1 (F := Ideal) x0 x2 (ix4 e k n o) = ∑ i : Fin 128, x2 (ix3 k i o) * x0 (ix3 e n i) := by
    unfold val_main_v1 val_main_v0
    pointwise [dot_S4x128x64_S4x2048x128_S4x64x4x2048_1_2_02_01_n_n]
  exact hr.trans (Finset.sum_congr rfl fun i _ => mul_comm _ _)

variable (hfin : ∀ b, (paramsOf x0 x1 x2 x3 x4 x5 x6 x7 x8 x9 b).Finite)
include hfin

/-- The first layer's rows. -/
theorem x1_read (e : Fin 4) (n : Row) (c : Fin 256) : val_main_v39 (F := Ideal) x0 x1 x2 x3 x4 x5 (ix3 e n c) = (paramsOf x0 x1 x2 x3 x4 x5 x6 x7 x8 x9 e).x1 n c := by
  rw [joined0, joined_read, soft0, masked0]
  simp only [weights_read _ x1 x3 x4 (hfin e).aS0 (hfin e).aD0, h0_read x0 x1 x2 x3 x4 x5 x6 x7 x8 x9]
  rfl

/-- The second layer's projected rows. -/
theorem h1_read (e k : Fin 4) (n : Row) (o : Fin 64) : val_main_v41 (F := Ideal) x0 x1 x2 x3 x4 x5 x6 (ix4 e k n o) = (paramsOf x0 x1 x2 x3 x4 x5 x6 x7 x8 x9 e).h1 k n o := by
  have hr : val_main_v41 (F := Ideal) x0 x1 x2 x3 x4 x5 x6 (ix4 e k n o) = ∑ i : Fin 256, x6 (ix3 k i o) * val_main_v39 (F := Ideal) x0 x1 x2 x3 x4 x5 (ix3 e n i) := by
    unfold val_main_v41 val_main_v40
    generalize val_main_v39 (F := Ideal) x0 x1 x2 x3 x4 x5 = y
    pointwise [dot_S4x256x64_S4x2048x256_S4x64x4x2048_1_2_02_01_n_n]
  refine hr.trans (Eq.trans (b := ∑ i : Fin 256, (paramsOf x0 x1 x2 x3 x4 x5 x6 x7 x8 x9 e).x1 n i * x6 (ix3 k i o)) (Finset.sum_congr rfl fun i _ => ?_) rfl)
  rw [x1_read x0 x1 x2 x3 x4 x5 x6 x7 x8 x9 hfin e n i, mul_comm]

/-- The second result: the second layer's weights. -/
theorem weights_result (e k : Fin 4) (i j : Row) :
    val_main_v73 (F := Ideal) x0 x1 x2 x3 x4 x5 x6 x7 x8 (ix4 e k i j) = (paramsOf x0 x1 x2 x3 x4 x5 x6 x7 x8 x9 e).weights k i j := by
  rw [soft1, masked1, weights_read _ x1 x7 x8 (hfin e).aS1 (hfin e).aD1]
  simp only [h1_read x0 x1 x2 x3 x4 x5 x6 x7 x8 x9 hfin]
  rfl

/-- The first result: the second layer's rows. -/
theorem rows_result (e : Fin 4) (n : Row) (c : Fin 256) :
    val_main_v79 (F := Ideal) x0 x1 x2 x3 x4 x5 x6 x7 x8 x9 (ix3 e n c) = (paramsOf x0 x1 x2 x3 x4 x5 x6 x7 x8 x9 e).x2 n c := by
  rw [joined1, joined_read]
  simp only [weights_result x0 x1 x2 x3 x4 x5 x6 x7 x8 x9 hfin, h1_read x0 x1 x2 x3 x4 x5 x6 x7 x8 x9 hfin]
  rfl
end Results

end Cert.ReferenceIdeal.Gat
end
-- ==== Proof.Value.Pre.lean ====
module

public import proofs.«01_k».proof.Defs
public import proofs.«01_k».proof.Proof.Gen.Pre_binary_adj_finite_a
public import proofs.«01_k».proof.Proof.Value.Blocks0
public import proofs.«01_k».proof.Proof.Value.Words
public import Idealize.ShloMosaic.Lib.ReduceAll

/-! # The precondition read

The predicate of the arguments, where it is one, says that the adjacency holds zeros and ones and the attention vectors
hold real numbers. -/

@[expose] public section
set_option maxRecDepth 16384
noncomputable section
namespace Cert.Pre_binary_adj_finite_a.Gat
open Cert.Pre_binary_adj_finite_a
open Idealize.ShloMosaic
/-- The word of one. -/
theorem word_one : Ideal.ofBits .f32 0x3F800000#32 = 1 := by simp [Ideal.ofBits, Ideal.ieee, -EReal.coe_mul]; norm_num

variable [Facts]
open Facts

/-- The scalar shape has one index. -/
theorem one_index : Subsingleton S_.Idx := ⟨fun _ _ => funext fun a => a.elim0⟩

/-- Whether every entry is smaller than infinity in absolute value. -/
abbrev bounded (a : FVec Ideal S4x64x1 .f32) : IVec S_ 1 :=
  Host.reduce IntOp.andi (cmpf (F := Ideal) .olt (Host.absf (F := Ideal) a) (broadcastInDim S4x64x1 ![] bcast_S_S4x64x1 (constant (F := Ideal) S_ .f32 0x7F800000#32)))
    (constantI S_ 1 1#1) reducesTo_S4x64x1_S_d0_1_2 h_S_
/-- Whether every entry is zero or one. -/
abbrev binary (a : FVec Ideal S4x2048x2048 .f32) : IVec S_ 1 :=
  Host.reduce IntOp.andi (ori (cmpf (F := Ideal) .oeq a (broadcastInDim S4x2048x2048 ![] bcast_S_S4x2048x2048 (constant (F := Ideal) S_ .f32 0x00000000#32)))
      (cmpf (F := Ideal) .oeq a (broadcastInDim S4x2048x2048 ![] bcast_S_S4x2048x2048 (constant (F := Ideal) S_ .f32 0x3F800000#32))))
    (constantI S_ 1 1#1) reducesTo_S4x2048x2048_S_d0_1_2 h_S_

/-- Such a vector's entries are real. -/
theorem bounded_read (a : FVec Ideal S4x64x1 .f32) (q : S_.Idx) (h : bounded a q = 1#1) (i : S4x64x1.Idx) : ∃ r : ℝ, a i = (r : EReal) := by
  haveI := one_index
  have hi := Host.reduce_andi_all _ _ _ _ q h i
  have hc : BitVec.ofBool (decide (max (a i) (-(a i)) < Ideal.ofBits .f32 0x7F800000#32)) = 1#1 := hi
  rw [Cert.KernelIdeal.Gat.word_high] at hc
  have hl : max (a i) (-(a i)) < (⊤ : EReal) := by
    by_contra hn
    rw [decide_eq_false hn] at hc
    exact absurd hc (by decide)
  obtain ⟨h1, h2⟩ := max_lt_iff.1 hl
  refine ⟨(a i).toReal, (EReal.coe_toReal h1.ne ?_).symm⟩
  intro hb
  rw [hb] at h2
  exact absurd h2 (by simp)

/-- Such a matrix's entries are zeros and ones. -/
theorem binary_read (a : FVec Ideal S4x2048x2048 .f32) (q : S_.Idx) (h : binary a q = 1#1) (i : S4x2048x2048.Idx) : a i = (0 : EReal) ∨ a i = (1 : EReal) := by
  haveI := one_index
  have hi := Host.reduce_andi_all _ _ _ _ q h i
  have hc : IntOp.ori (BitVec.ofBool (decide (a i = Ideal.ofBits .f32 0x00000000#32))) (BitVec.ofBool (decide (a i = Ideal.ofBits .f32 0x3F800000#32))) = 1#1 := hi
  rw [word_one, show Ideal.ofBits .f32 0x00000000#32 = 0 by simp [Ideal.ofBits, Ideal.ieee, -EReal.coe_mul]] at hc
  refine (IntOp.ori_eq_one.1 hc).imp (fun hz => ?_) fun hz => ?_
  all_goals
    by_contra hn
    rw [decide_eq_false hn] at hz
    exact absurd hz (by decide)

/-- The predicate's conjuncts. -/
theorem fn_read (x0 : FVec Ideal S4x2048x128 .f32) (x1 : FVec Ideal S4x2048x2048 .f32) (x2 : FVec Ideal S4x128x64 .f32) (x3 x4 : FVec Ideal S4x64x1 .f32)
    (x5 : FVec Ideal S64 .f32) (x6 : FVec Ideal S4x256x64 .f32) (x7 x8 : FVec Ideal S4x64x1 .f32) (x9 : FVec Ideal S64 .f32) (q : S_.Idx)
    (h : fn (F := Ideal) x0 x1 x2 x3 x4 x5 x6 x7 x8 x9 q = 1#1) :
    binary x1 q = 1#1 ∧ bounded x3 q = 1#1 ∧ bounded x4 q = 1#1 ∧ bounded x7 q = 1#1 ∧ bounded x8 q = 1#1 := by
  have hc : IntOp.andi (IntOp.andi (IntOp.andi (IntOp.andi (binary x1 q) (bounded x3 q)) (bounded x4 q)) (bounded x7 q)) (bounded x8 q) = 1#1 := h
  obtain ⟨hc, h8⟩ := IntOp.andi_eq_one.1 hc
  obtain ⟨hc, h7⟩ := IntOp.andi_eq_one.1 hc
  obtain ⟨hc, h4⟩ := IntOp.andi_eq_one.1 hc
  obtain ⟨hc, h3⟩ := IntOp.andi_eq_one.1 hc
  exact ⟨hc, h3, h4, h7, h8⟩

end Cert.Pre_binary_adj_finite_a.Gat

namespace Cert.KernelIdeal.Gat
open Cert.KernelIdeal Cert.KernelIdeal.Gen
open Idealize.ShloMosaic Idealize.ShloMosaic.TcCoe
open Cert.Gat Cert.Pre_binary_adj_finite_a.Gat
variable (m : (ℓ : Loc nD τ sig) → Buf (Elt Ideal) ℓ) (c : Dev nD)
  (h : Cert.Pre_KernelIdeal_binary_adj_finite_a (hPre_binary_adj_finite_a := Cert.Pre_binary_adj_finite_a.Gen.facts) m)
include h

/-- Under the precondition the adjacency holds zeros and ones. -/
theorem binary_of : Binary m c := fun b i j =>
  binary_read (argAdj m c) _ (fn_read _ _ _ _ _ _ _ _ _ _ (fun a => a.elim0) (congrFun (h c) _)).1 (ix3 b i j)

/-- Under the precondition the attention vectors hold real numbers. -/
theorem finite_of (b : Fin 4) : (params m c b).Finite := by
  obtain ⟨-, h3, h4, h7, h8⟩ := fn_read _ _ _ _ _ _ _ _ _ _ (fun a => a.elim0) (congrFun (h c) _)
  exact ⟨fun k o => bounded_read (argS0 m c) _ h3 (ix3 k o 0), fun k o => bounded_read (argD0 m c) _ h4 (ix3 k o 0),
    fun k o => bounded_read (argS1 m c) _ h7 (ix3 k o 0), fun k o => bounded_read (argD1 m c) _ h8 (ix3 k o 0)⟩

end Cert.KernelIdeal.Gat
end
-- ==== Proof.Value.Equal.lean ====
module

public import proofs.«01_k».proof.Defs
public import proofs.«01_k».proof.Proof.Gen.ReferenceIdeal.Run
public import proofs.«01_k».proof.Proof.Gen.ReferenceIdeal.Read
public import proofs.«01_k».proof.Proof.Value.Left1
public import proofs.«01_k».proof.Proof.Value.LayerRead
public import proofs.«01_k».proof.Proof.Value.Pre

/-! # The kernel against the reference

The reference's run, and that on equal arguments both programs end with the same two arrays: the second layer's rows and
its attention weights. -/

@[expose] public section
set_option maxRecDepth 16384
noncomputable section

namespace Cert.ReferenceIdeal.Gat
open Cert.ReferenceIdeal Cert.ReferenceIdeal.Gen Cert.ReferenceIdeal.Read
open Idealize.ShloMosaic Idealize.ShloMosaic.TcCoe Idealize.SL.Sem
open Cert.Gat

/-- Every execution of the reference ends with the arguments as launched and every counter at zero. -/
theorem runs_clean : Cert.quiescent_ReferenceIdeal (hReferenceIdeal := Cert.ReferenceIdeal.Gen.facts) := fun m g _ =>
  (θ_run defs _ _).mono (fun r h => ⟨fun c => (h c).2.2, sem_eq_zero_of_no_sems (by decide) r.2⟩) (Cert.ReferenceIdeal.Value.run (F := Ideal) m g)

/-- The reference's results as functions of the arguments. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = val_main_v79 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (val_main_v79_eq (StableHlo.launchContents m c)), (h c).2.1.trans (val_main_v73_eq (StableHlo.launchContents m c)), (h c).2.2⟩)
    (Cert.ReferenceIdeal.Value.run (F := Ideal) m ρ)

section Arrays
variable (x0 : FVec Ideal S4x2048x128 .f32) (x1 : FVec Ideal S4x2048x2048 .f32) (x2 : FVec Ideal S4x128x64 .f32) (x3 x4 : FVec Ideal S4x64x1 .f32) (x5 : FVec Ideal S64 .f32)
  (x6 : FVec Ideal S4x256x64 .f32) (x7 x8 : FVec Ideal S4x64x1 .f32) (x9 : FVec Ideal S64 .f32) (hfin : ∀ b, (paramsOf x0 x1 x2 x3 x4 x5 x6 x7 x8 x9 b).Finite)
include hfin

/-- The reference's first result, whole. -/
theorem rows_array : val_main_v79 (F := Ideal) x0 x1 x2 x3 x4 x5 x6 x7 x8 x9
    = fun y : S4x2048x256.Idx => (paramsOf x0 x1 x2 x3 x4 x5 x6 x7 x8 x9 (y 0)).x2 (y 1) (y 2) := by
  funext y
  obtain ⟨e, n, o, rfl⟩ : ∃ e n o, y = ix3 (n0 := 4) (n1 := 2048) (n2 := 256) e n o := ⟨_, _, _, eq_ix3 y⟩
  exact rows_result x0 x1 x2 x3 x4 x5 x6 x7 x8 x9 hfin e n o

/-- The reference's second result, whole. -/
theorem weights_array : val_main_v73 (F := Ideal) x0 x1 x2 x3 x4 x5 x6 x7 x8
    = fun y : S4x4x2048x2048.Idx => (paramsOf x0 x1 x2 x3 x4 x5 x6 x7 x8 x9 (y 0)).weights (y 1) (y 2) (y 3) := by
  funext y
  obtain ⟨e, k, i, j, rfl⟩ : ∃ e k i j, y = ix4 (n0 := 4) (n1 := 4) (n2 := 2048) (n3 := 2048) e k i j := ⟨_, _, _, _, eq_ix4 y⟩
  exact weights_result x0 x1 x2 x3 x4 x5 x6 x7 x8 x9 hfin e k i j
end Arrays

end Cert.ReferenceIdeal.Gat

namespace Cert.KernelIdeal.Gat
open Cert.KernelIdeal Cert.KernelIdeal.Gen
open Idealize.ShloMosaic Idealize.ShloMosaic.TcCoe Idealize.SL.Sem
open Cert.Gat

/-- The parameters the kernel's arguments hold are those the reference's results are stated in. -/
theorem params_eq (m : (ℓ : Loc nD τ sig) → Buf (Elt Ideal) ℓ) (c : Dev nD) :
    params m c = Cert.ReferenceIdeal.Gat.paramsOf (argX m c) (argAdj m c) (argW0 m c) (argS0 m c) (argD0 m c) (argB0 m c) (argW1 m c) (argS1 m c) (argD1 m c) (argB1 m c) := rfl

/-- On equal arguments, under the precondition, the kernel and the reference end with equal results. -/
theorem equal_results : Cert.algebraic_KernelIdeal_ReferenceIdeal_pre_binary_adj_finite_a (hKernelIdeal := Cert.KernelIdeal.Gen.facts)
    (hReferenceIdeal := Cert.ReferenceIdeal.Gen.facts) (hPre_binary_adj_finite_a := Cert.Pre_binary_adj_finite_a.Gen.facts) := by
  intro m g m' g' hpre hargs
  refine ⟨fun c => arrX m c, fun c => arrW m c, ?_, ?_⟩
  · refine (θ_run defs _ _).mono (fun r h c => ?_) (run m g)
    have keep := fun a ha hs => args_kept m r.2.mem h.1 c a ha hs
    exact ⟨(h.1 c _ (mem_uc main_v3_0 (by decide))).trans (left_x m c (binary_of m c hpre) (finite_of m c hpre)),
      (h.1 c _ (mem_uc main_v3_1 (by decide))).trans (left_w m c (binary_of m c hpre) (finite_of m c hpre)),
      keep main_arg0 (by decide) (by decide), keep main_arg1 (by decide) (by decide), keep main_arg2 (by decide) (by decide), keep main_arg3 (by decide) (by decide),
      keep main_arg4 (by decide) (by decide), keep main_arg5 (by decide) (by decide), keep main_arg6 (by decide) (by decide), keep main_arg7 (by decide) (by decide),
      keep main_arg8 (by decide) (by decide), keep main_arg9 (by decide) (by decide)⟩
  · refine (θ_run Cert.ReferenceIdeal.defs _ _).mono (fun r h c => ?_) (Cert.ReferenceIdeal.Gat.run_read m' g')
    obtain ⟨hx, hw, hrest⟩ := h c
    obtain ⟨e0, e1, e2, e3, e4, e5, e6, e7, e8, e9⟩ := hargs c
    have hfin := finite_of m c hpre
    refine ⟨hx.trans ?_, hw.trans ?_, hrest⟩
    · rw [e0, e1, e2, e3, e4, e5, e6, e7, e8, e9]
      exact Cert.ReferenceIdeal.Gat.rows_array (argX m c) (argAdj m c) (argW0 m c) (argS0 m c) (argD0 m c) (argB0 m c) (argW1 m c) (argS1 m c) (argD1 m c) (argB1 m c) hfin
    · rw [e0, e1, e2, e3, e4, e5, e6, e7, e8]
      exact Cert.ReferenceIdeal.Gat.weights_array (argX m c) (argAdj m c) (argW0 m c) (argS0 m c) (argD0 m c) (argB0 m c) (argW1 m c) (argS1 m c) (argD1 m c) (argB1 m c) hfin

end Cert.KernelIdeal.Gat
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_binary_adj_finite_a
public import proofs.«01_k».proof.Proof.Bits
public import proofs.«01_k».proof.Proof.Ideal.Run
public import proofs.«01_k».proof.Proof.Value.Equal

@[expose] public section

noncomputable section

namespace Cert.Proof

open Idealize.ShloMosaic Idealize.SL.Sem Cert.Kernel

/-- Everything claimed of the kernel and its reference. -/
theorem claim : Cert.Claim :=
  ⟨Cert.Kernel.Gen.facts, Cert.KernelIdeal.Gen.facts, Cert.ReferenceIdeal.Gen.facts, Cert.Pre_binary_adj_finite_a.Gen.facts,
    Cert.Kernel.Gat.runs_clean,
    fun m g _ => Cert.KernelIdeal.Gat.runs_clean (F := Ideal) m g,
    fun m g _ => Cert.KernelIdeal.Gat.runs_clean (F := Ideal) m g,
    Cert.ReferenceIdeal.Gat.runs_clean,
    fun m g _ => Cert.ReferenceIdeal.Gat.runs_clean m g trivial,
    ⟨IdealRules.named_const.statement Cert.KernelIdeal.κ "rest" .f32 0x3F4CCCCD#32 ((53687091 / 67108864 : ℝ) : EReal) rfl,
      IdealRules.named_const.statement Cert.KernelIdeal.κ "neg_rest" .f32 0xBF4CCCCD#32 ((-53687091 / 67108864 : ℝ) : EReal) rfl⟩,
    Cert.KernelIdeal.Gat.equal_results⟩

end Cert.Proof

end
